-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_proper [hPre_proper : Cert.Pre_proper.Facts] (m : (ℓ : Loc Cert.KernelIdeal.nD Cert.KernelIdeal.τ Cert.KernelIdeal.sig) → Buf (Elt Ideal) ℓ) : Prop :=
  ∀ c : Dev Cert.KernelIdeal.nD,
    (Cert.Pre_proper.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_proper [hPre_proper : Cert.Pre_proper.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_proper.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_proper [hKernelIdeal : Cert.KernelIdeal.Facts] [hPre_proper : Cert.Pre_proper.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_proper m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_proper [hReferenceIdeal : Cert.ReferenceIdeal.Facts] [hPre_proper : Cert.Pre_proper.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_proper m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_proper [hKernelIdeal : Cert.KernelIdeal.Facts] [hReferenceIdeal : Cert.ReferenceIdeal.Facts] [hPre_proper : Cert.Pre_proper.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_proper m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_range : Cert.Pre_in_range.Facts) (hPre_proper : Cert.Pre_proper.Facts),
    quiescent_Kernel (hKernel := hKernel) (hPre_in_range := hPre_in_range)
    ∧ quiescent_KernelIdeal (hKernelIdeal := hKernelIdeal) (hPre_in_range := hPre_in_range)
    ∧ quiescent_KernelIdeal_pre_proper (hKernelIdeal := hKernelIdeal) (hPre_proper := hPre_proper)
    ∧ quiescent_ReferenceIdeal (hReferenceIdeal := hReferenceIdeal)
    ∧ quiescent_ReferenceIdeal_pre_proper (hReferenceIdeal := hReferenceIdeal) (hPre_proper := hPre_proper)
    ∧ preserves_Kernel_KernelIdeal
    ∧ algebraic_KernelIdeal_ReferenceIdeal_pre_proper (hKernelIdeal := hKernelIdeal) (hReferenceIdeal := hReferenceIdeal) (hPre_proper := hPre_proper)
-- ==== Pre_in_range.lean ====
abbrev S1024x100000 : Shape := ⟨2, ![1024, 100000]⟩
abbrev S1024 : Shape := ⟨1, ![1024]⟩
abbrev S100000 : Shape := ⟨1, ![100000]⟩
abbrev S100000x1 : Shape := ⟨2, ![100000, 1]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel

variable [Facts]

def fn {F : FTy → Type} [FloatOps F] (main_arg0 : FVec F S1024x100000 .f32) (main_arg1 : IVec S1024 32) (main_arg2 : IVec S100000 32) (main_arg3 : FVec F S100000x1 .f32) : IVec S_ 1 :=
  let main_c : IVec S_ 32 := constantI S_ 32 0#32
  let main_v0 : IVec S1024 32 := broadcastInDim S1024 ![] bcast_S_S1024 main_c
  let main_v1 : IVec S1024 1 := cmpi .sge main_arg1 main_v0
  let main_c_0 : IVec S_ 32 := constantI S_ 32 100000#32
  let main_v2 : IVec S1024 32 := broadcastInDim S1024 ![] bcast_S_S1024 main_c_0
  let main_v3 : IVec S1024 1 := cmpi .slt main_arg1 main_v2
  let main_v4 : IVec S1024 1 := andi main_v1 main_v3
  let main_c_1 : IVec S_ 1 := constantI S_ 1 1#1
  let main_v5 : IVec S_ 1 := (fun x v => Host.reduce IntOp.andi x v reducesTo_S1024_S_d0 h_S_) main_v4 main_c_1
  main_v5
-- ==== Pre_proper.lean ====
abbrev S1024x100000 : Shape := ⟨2, ![1024, 100000]⟩
abbrev S1024 : Shape := ⟨1, ![1024]⟩
abbrev S100000 : Shape := ⟨1, ![100000]⟩
abbrev S100000x1 : Shape := ⟨2, ![100000, 1]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x100000 : S_.BroadcastsInDim S1024x100000 (![] : Fin 0 → Fin S1024x100000.rank)
  reducesTo_S1024x100000_S_d0_1 : S1024x100000.ReducesTo [0, 1] S_
  bcast_S_S100000x1 : S_.BroadcastsInDim S100000x1 (![] : Fin 0 → Fin S100000x1.rank)
  reducesTo_S100000x1_S_d0_1 : S100000x1.ReducesTo [0, 1] S_

variable [Facts]

def fn {F : FTy → Type} [FloatOps F] (main_arg0 : FVec F S1024x100000 .f32) (main_arg1 : IVec S1024 32) (main_arg2 : IVec S100000 32) (main_arg3 : FVec F S100000x1 .f32) : IVec S_ 1 :=
  let main_c : IVec S_ 32 := constantI S_ 32 0#32
  let main_v0 : IVec S1024 32 := broadcastInDim S1024 ![] bcast_S_S1024 main_c
  let main_v1 : IVec S1024 1 := cmpi .sge main_arg1 main_v0
  let main_c_0 : IVec S_ 32 := constantI S_ 32 100000#32
  let main_v2 : IVec S1024 32 := broadcastInDim S1024 ![] bcast_S_S1024 main_c_0
  let main_v3 : IVec S1024 1 := cmpi .slt main_arg1 main_v2
  let main_v4 : IVec S1024 1 := andi main_v1 main_v3
  let main_c_1 : IVec S_ 1 := constantI S_ 1 1#1
  let main_v5 : IVec S_ 1 := (fun x v => Host.reduce IntOp.andi x v reducesTo_S1024_S_d0 h_S_) main_v4 main_c_1
  let main_cst : FVec F S_ .f32 := constant S_ .f32 0xFF800000#32
  let main_v6 : FVec F S1024x100000 .f32 := broadcastInDim S1024x100000 ![] bcast_S_S1024x100000 main_cst
  let main_v7 : IVec S1024x100000 1 := cmpf .ogt main_arg0 main_v6
  let main_c_2 : IVec S_ 1 := constantI S_ 1 1#1
  let main_v8 : IVec S_ 1 := (fun x v => Host.reduce IntOp.andi x v reducesTo_S1024x100000_S_d0_1 h_S_) main_v7 main_c_2
  let main_v9 : IVec S_ 1 := andi main_v5 main_v8
  let main_v10 : FVec F S100000x1 .f32 := Host.absf main_arg3
  let main_cst_3 : FVec F S_ .f32 := constant S_ .f32 0x7F800000#32
  let main_v11 : FVec F S100000x1 .f32 := broadcastInDim S100000x1 ![] bcast_S_S100000x1 main_cst_3
  let main_v12 : IVec S100000x1 1 := cmpf .olt main_v10 main_v11
  let main_c_4 : IVec S_ 1 := constantI S_ 1 1#1
  let main_v13 : IVec S_ 1 := (fun x v => Host.reduce IntOp.andi x v reducesTo_S100000x1_S_d0_1 h_S_) main_v12 main_c_4
  let main_v14 : IVec S_ 1 := andi main_v9 main_v13
  main_v14
-- ==== Kernel.lean ====
abbrev S1024x100000 : Shape := ⟨2, ![1024, 100000]⟩
abbrev S1024 : Shape := ⟨1, ![1024]⟩
abbrev S100000 : Shape := ⟨1, ![100000]⟩
abbrev S100000x1 : Shape := ⟨2, ![100000, 1]⟩
abbrev S32 : Shape := ⟨1, ![32]⟩
abbrev S_ : Shape := ⟨0, ![]⟩
abbrev S1x100000 : Shape := ⟨2, ![1, 100000]⟩
abbrev S1024x1 : Shape := ⟨2, ![1024, 1]⟩
abbrev S1x1 : Shape := ⟨2, ![1, 1]⟩
abbrev S4x16x100000 : Shape := ⟨3, ![4, 16, 100000]⟩
abbrev S4 : Shape := ⟨1, ![4]⟩
abbrev S1 : Shape := ⟨1, ![1]⟩
abbrev S1x16x100000 : Shape := ⟨3, ![1, 16, 100000]⟩
abbrev S16x100000 : Shape := ⟨2, ![16, 100000]⟩
abbrev S16x1 : Shape := ⟨2, ![16, 1]⟩
abbrev S16 : Shape := ⟨1, ![16]⟩
abbrev S1x16x1 : Shape := ⟨3, ![1, 16, 1]⟩
abbrev S1x1x1 : Shape := ⟨3, ![1, 1, 1]⟩

abbrev nBuf : Table → Nat
  | .hbm => 13
  | .local .tc .vmem => 5
  | .local .tc .smem => 1
  | .local .scVector .vmem => 3
  | _ => 0

abbrev bufTy : (tb : Table) → Fin (nBuf tb) → BufTy
  | .hbm, ⟨0, _⟩ => ⟨S1024x100000, .f32⟩
  | .hbm, ⟨1, _⟩ => ⟨S1024, .i32⟩
  | .hbm, ⟨2, _⟩ => ⟨S100000, .i32⟩
  | .hbm, ⟨3, _⟩ => ⟨S100000x1, .f32⟩
  | .hbm, ⟨4, _⟩ => ⟨S100000, .f32⟩
  | .hbm, ⟨5, _⟩ => ⟨S1024, .i32⟩
  | .hbm, ⟨6, _⟩ => ⟨S1024, .f32⟩
  | .hbm, ⟨7, _⟩ => ⟨S1x100000, .i32⟩
  | .hbm, ⟨8, _⟩ => ⟨S1024x1, .i32⟩
  | .hbm, ⟨9, _⟩ => ⟨S1024x1, .i32⟩
  | .hbm, ⟨10, _⟩ => ⟨S1024x1, .f32⟩
  | .hbm, ⟨11, _⟩ => ⟨S1x1, .f32⟩
  | .hbm, ⟨12, _⟩ => ⟨S_, .f32⟩
  | .local .tc .vmem, ⟨0, _⟩ => ⟨S1x100000, .i32⟩
  | .local .tc .vmem, ⟨1, _⟩ => ⟨S1024x1, .i32⟩
  | .local .tc .vmem, ⟨2, _⟩ => ⟨S1024x1, .i32⟩
  | .local .tc .vmem, ⟨3, _⟩ => ⟨S1024x1, .f32⟩
  | .local .tc .vmem, ⟨4, _⟩ => ⟨S4x16x100000, .f32⟩
  | .local .tc .smem, ⟨0, _⟩ => ⟨S1x1, .f32⟩
  | .local .scVector .vmem, ⟨0, _⟩ => ⟨S32, .i32⟩
  | .local .scVector .vmem, ⟨1, _⟩ => ⟨S32, .i32⟩
  | .local .scVector .vmem, ⟨2, _⟩ => ⟨S32, .f32⟩
  | _, _ => ⟨S1024x100000, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 13 → Bool
  | ⟨0, _⟩ => false
  | ⟨1, _⟩ => false
  | ⟨2, _⟩ => false
  | ⟨3, _⟩ => false
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTables nBuf rfl bufTy 4 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_arg1_scv : Ref sig .scVector := ⟨.hbm, 1, rfl⟩
abbrev main_arg2_scv : Ref sig .scVector := ⟨.hbm, 2, rfl⟩
abbrev main_v0_scv : Ref sig .scVector := ⟨.hbm, 4, rfl⟩
abbrev main_v1_0_scv : Ref sig .scVector := ⟨.hbm, 5, rfl⟩
abbrev main_v1_1_scv : Ref sig .scVector := ⟨.hbm, 6, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc1_scratch0 : Ref sig .tc := ⟨.vmem, 4, rfl⟩
abbrev cc1_stg4_0 : Ref sig .tc := ⟨.smem, 0, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 4
abbrev cc1_sem1_0 : DmaSem sig := 5
abbrev cc1_sem2_0 : DmaSem sig := 6
abbrev cc1_sem3_0 : DmaSem sig := 7
abbrev cc1_sem4_0 : DmaSem sig := 8
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  ![v2.toNat]
abbrev grid1 : Pipeline.Grid := .none

@[reducible] def k1_t1_loop : Scf.Loop 32 :=
  let c0_i32_19 : BitVec 32 := 0#32
  let c16_i32_20 : BitVec 32 := 16#32
  let v23 : BitVec 32 := Scalar.addi c0_i32_19 c16_i32_20
  let c1_i32_21 : BitVec 32 := 1#32
  ⟨c0_i32_19, v23, c1_i32_21⟩
def k1_off1 (k1_t1 : Fin k1_t1_loop.trips) (c0_i32_28 : BitVec 32) : Fin 2 → Nat :=
  let c0_i32_19 : BitVec 32 := 0#32
  let c1_i32_21 : BitVec 32 := 1#32
  let arg8 : BitVec 32 := Scf.iv c0_i32_19 c1_i32_21 k1_t1
  let c4_i32 : BitVec 32 := 4#32
  let v31 : BitVec 32 := Scalar.muli arg8 c4_i32
  let v32 : BitVec 32 := Scalar.addi v31 c0_i32_28
  let c16_i32_29 : BitVec 32 := 16#32
  let v33 : BitVec 32 := Scalar.muli v32 c16_i32_29
  let c0_i32_34 : BitVec 32 := 0#32
  ![v33.toNat, 0]
def k1_off2 (k1_t1 : Fin k1_t1_loop.trips) (c0_i32_28 : BitVec 32) : Fin 2 → Nat :=
  let c0_i32_19 : BitVec 32 := 0#32
  let c1_i32_21 : BitVec 32 := 1#32
  let arg8 : BitVec 32 := Scf.iv c0_i32_19 c1_i32_21 k1_t1
  let c4_i32 : BitVec 32 := 4#32
  let v31 : BitVec 32 := Scalar.muli arg8 c4_i32
  let v32 : BitVec 32 := Scalar.addi v31 c0_i32_28
  let c16_i32_38 : BitVec 32 := 16#32
  let v42 : BitVec 32 := Scalar.muli v32 c16_i32_38
  let v43 : Index := Scalar.indexCast v42
  let c0_39 : Index := 0#32
  ![v43.toNat, 0]
def k1_cond1 (k1_t1 : Fin k1_t1_loop.trips) : BitVec 1 :=
  let c0_i32_19 : BitVec 32 := 0#32
  let c1_i32_21 : BitVec 32 := 1#32
  let arg8 : BitVec 32 := Scf.iv c0_i32_19 c1_i32_21 k1_t1
  let c4_i32 : BitVec 32 := 4#32
  let v31 : BitVec 32 := Scalar.muli arg8 c4_i32
  let c0_i32_28 : BitVec 32 := 0#32
  let v32 : BitVec 32 := Scalar.addi v31 c0_i32_28
  let c4_i32_45 : BitVec 32 := 4#32
  let v63 : BitVec 32 := Scalar.addi v32 c4_i32_45
  let c64_i32 : BitVec 32 := 64#32
  let v64 : BitVec 1 := Scalar.cmpi .slt v63 c64_i32
  let v65 : BitVec 32 := Scalar.extui v64
  let c0_i32_46 : BitVec 32 := 0#32
  let v66 : BitVec 1 := Scalar.cmpi .ne v65 c0_i32_46
  v66

def k1_off3 (k1_t1 : Fin k1_t1_loop.trips) : Fin 2 → Nat :=
  let c0_i32_19 : BitVec 32 := 0#32
  let c1_i32_21 : BitVec 32 := 1#32
  let arg8 : BitVec 32 := Scf.iv c0_i32_19 c1_i32_21 k1_t1
  let c4_i32 : BitVec 32 := 4#32
  let v31 : BitVec 32 := Scalar.muli arg8 c4_i32
  let c0_i32_28 : BitVec 32 := 0#32
  let v32 : BitVec 32 := Scalar.addi v31 c0_i32_28
  let c4_i32_131 : BitVec 32 := 4#32
  let v255 : BitVec 32 := Scalar.addi v32 c4_i32_131
  let c16_i32_132 : BitVec 32 := 16#32
  let v256 : BitVec 32 := Scalar.muli v255 c16_i32_132
  let c0_i32_137 : BitVec 32 := 0#32
  ![v256.toNat, 0]
def k1_cond2 (k1_t1 : Fin k1_t1_loop.trips) : BitVec 1 :=
  let c0_i32_19 : BitVec 32 := 0#32
  let c1_i32_21 : BitVec 32 := 1#32
  let arg8 : BitVec 32 := Scf.iv c0_i32_19 c1_i32_21 k1_t1
  let c4_i32_53 : BitVec 32 := 4#32
  let v87 : BitVec 32 := Scalar.muli arg8 c4_i32_53
  let c1_i32_54 : BitVec 32 := 1#32
  let v88 : BitVec 32 := Scalar.addi v87 c1_i32_54
  let c4_i32_70 : BitVec 32 := 4#32
  let v119 : BitVec 32 := Scalar.addi v88 c4_i32_70
  let c64_i32_71 : BitVec 32 := 64#32
  let v120 : BitVec 1 := Scalar.cmpi .slt v119 c64_i32_71
  let v121 : BitVec 32 := Scalar.extui v120
  let c0_i32_72 : BitVec 32 := 0#32
  let v122 : BitVec 1 := Scalar.cmpi .ne v121 c0_i32_72
  v122

def k1_off4 (k1_t1 : Fin k1_t1_loop.trips) : Fin 2 → Nat :=
  let c0_i32_19 : BitVec 32 := 0#32
  let c1_i32_21 : BitVec 32 := 1#32
  let arg8 : BitVec 32 := Scf.iv c0_i32_19 c1_i32_21 k1_t1
  let c4_i32_53 : BitVec 32 := 4#32
  let v87 : BitVec 32 := Scalar.muli arg8 c4_i32_53
  let c1_i32_54 : BitVec 32 := 1#32
  let v88 : BitVec 32 := Scalar.addi v87 c1_i32_54
  let c4_i32_131 : BitVec 32 := 4#32
  let v255 : BitVec 32 := Scalar.addi v88 c4_i32_131
  let c16_i32_132 : BitVec 32 := 16#32
  let v256 : BitVec 32 := Scalar.muli v255 c16_i32_132
  let c0_i32_137 : BitVec 32 := 0#32
  ![v256.toNat, 0]
def k1_cond3 (k1_t1 : Fin k1_t1_loop.trips) : BitVec 1 :=
  let c0_i32_19 : BitVec 32 := 0#32
  let c1_i32_21 : BitVec 32 := 1#32
  let arg8 : BitVec 32 := Scf.iv c0_i32_19 c1_i32_21 k1_t1
  let c4_i32_79 : BitVec 32 := 4#32
  let v143 : BitVec 32 := Scalar.muli arg8 c4_i32_79
  let c2_i32_80 : BitVec 32 := 2#32
  let v144 : BitVec 32 := Scalar.addi v143 c2_i32_80
  let c4_i32_96 : BitVec 32 := 4#32
  let v175 : BitVec 32 := Scalar.addi v144 c4_i32_96
  let c64_i32_97 : BitVec 32 := 64#32
  let v176 : BitVec 1 := Scalar.cmpi .slt v175 c64_i32_97
  let v177 : BitVec 32 := Scalar.extui v176
  let c0_i32_98 : BitVec 32 := 0#32
  let v178 : BitVec 1 := Scalar.cmpi .ne v177 c0_i32_98
  v178

def k1_off5 (k1_t1 : Fin k1_t1_loop.trips) : Fin 2 → Nat :=
  let c0_i32_19 : BitVec 32 := 0#32
  let c1_i32_21 : BitVec 32 := 1#32
  let arg8 : BitVec 32 := Scf.iv c0_i32_19 c1_i32_21 k1_t1
  let c4_i32_79 : BitVec 32 := 4#32
  let v143 : BitVec 32 := Scalar.muli arg8 c4_i32_79
  let c2_i32_80 : BitVec 32 := 2#32
  let v144 : BitVec 32 := Scalar.addi v143 c2_i32_80
  let c4_i32_131 : BitVec 32 := 4#32
  let v255 : BitVec 32 := Scalar.addi v144 c4_i32_131
  let c16_i32_132 : BitVec 32 := 16#32
  let v256 : BitVec 32 := Scalar.muli v255 c16_i32_132
  let c0_i32_137 : BitVec 32 := 0#32
  ![v256.toNat, 0]
def k1_cond4 (k1_t1 : Fin k1_t1_loop.trips) : BitVec 1 :=
  let c0_i32_19 : BitVec 32 := 0#32
  let c1_i32_21 : BitVec 32 := 1#32
  let arg8 : BitVec 32 := Scf.iv c0_i32_19 c1_i32_21 k1_t1
  let c4_i32_105 : BitVec 32 := 4#32
  let v199 : BitVec 32 := Scalar.muli arg8 c4_i32_105
  let c3_i32_106 : BitVec 32 := 3#32
  let v200 : BitVec 32 := Scalar.addi v199 c3_i32_106
  let c4_i32_122 : BitVec 32 := 4#32
  let v231 : BitVec 32 := Scalar.addi v200 c4_i32_122
  let c64_i32_123 : BitVec 32 := 64#32
  let v232 : BitVec 1 := Scalar.cmpi .slt v231 c64_i32_123
  let v233 : BitVec 32 := Scalar.extui v232
  let c0_i32_124 : BitVec 32 := 0#32
  let v234 : BitVec 1 := Scalar.cmpi .ne v233 c0_i32_124
  v234

def k1_off6 (k1_t1 : Fin k1_t1_loop.trips) : Fin 2 → Nat :=
  let c0_i32_19 : BitVec 32 := 0#32
  let c1_i32_21 : BitVec 32 := 1#32
  let arg8 : BitVec 32 := Scf.iv c0_i32_19 c1_i32_21 k1_t1
  let c4_i32_105 : BitVec 32 := 4#32
  let v199 : BitVec 32 := Scalar.muli arg8 c4_i32_105
  let c3_i32_106 : BitVec 32 := 3#32
  let v200 : BitVec 32 := Scalar.addi v199 c3_i32_106
  let c4_i32_131 : BitVec 32 := 4#32
  let v255 : BitVec 32 := Scalar.addi v200 c4_i32_131
  let c16_i32_132 : BitVec 32 := 16#32
  let v256 : BitVec 32 := Scalar.muli v255 c16_i32_132
  let c0_i32_137 : BitVec 32 := 0#32
  ![v256.toNat, 0]
abbrev stage1_0 : Fin 1 → Memref sig .tc .vmem S1x100000 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1024x1 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1024x1 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1024x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .smem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1024x100000 : Shape := ⟨2, ![1024, 100000]⟩
abbrev S1024 : Shape := ⟨1, ![1024]⟩
abbrev S100000 : Shape := ⟨1, ![100000]⟩
abbrev S100000x1 : Shape := ⟨2, ![100000, 1]⟩
abbrev S_ : Shape := ⟨0, ![]⟩
abbrev S1024x1 : Shape := ⟨2, ![1024, 1]⟩
abbrev S1 : Shape := ⟨1, ![1]⟩
abbrev S1x1 : Shape := ⟨2, ![1, 1]⟩
abbrev S1x100000 : Shape := ⟨2, ![1, 100000]⟩
abbrev S1024x2 : Shape := ⟨2, ![1024, 2]⟩
abbrev S1x1024 : Shape := ⟨2, ![1, 1024]⟩
abbrev S1024x1024 : Shape := ⟨2, ![1024, 1024]⟩

abbrev nBuf : Space → Nat
  | .hbm => 105
  | .vmem => 0
  | .smem => 0
  | _ => 0

abbrev bufTy : (tb : Table) → Fin (tcTables nBuf tb) → BufTy
  | .hbm, ⟨0, _⟩ => ⟨S1024x100000, .f32⟩
  | .hbm, ⟨1, _⟩ => ⟨S1024, .i32⟩
  | .hbm, ⟨2, _⟩ => ⟨S100000, .i32⟩
  | .hbm, ⟨3, _⟩ => ⟨S100000x1, .f32⟩
  | .hbm, ⟨4, _⟩ => ⟨S1024x100000, .f32⟩
  | .hbm, ⟨5, _⟩ => ⟨S_, .i32⟩
  | .hbm, ⟨6, _⟩ => ⟨S1024, .i32⟩
  | .hbm, ⟨7, _⟩ => ⟨S1024, .i1⟩
  | .hbm, ⟨8, _⟩ => ⟨S_, .i32⟩
  | .hbm, ⟨9, _⟩ => ⟨S1024, .i32⟩
  | .hbm, ⟨10, _⟩ => ⟨S1024, .i32⟩
  | .hbm, ⟨11, _⟩ => ⟨S1024, .i32⟩
  | .hbm, ⟨12, _⟩ => ⟨S1024x1, .i32⟩
  | .hbm, ⟨13, _⟩ => ⟨S1, .i32⟩
  | .hbm, ⟨14, _⟩ => ⟨S_, .i32⟩
  | .hbm, ⟨15, _⟩ => ⟨S1024x1, .i32⟩
  | .hbm, ⟨16, _⟩ => ⟨S1024x1, .i1⟩
  | .hbm, ⟨17, _⟩ => ⟨S1x1, .i32⟩
  | .hbm, ⟨18, _⟩ => ⟨S1024x1, .i32⟩
  | .hbm, ⟨19, _⟩ => ⟨S1024x1, .i1⟩
  | .hbm, ⟨20, _⟩ => ⟨S1024x1, .i1⟩
  | .hbm, ⟨21, _⟩ => ⟨S_, .i1⟩
  | .hbm, ⟨22, _⟩ => ⟨S1024, .i1⟩
  | .hbm, ⟨23, _⟩ => ⟨S1024x1, .f32⟩
  | .hbm, ⟨24, _⟩ => ⟨S1024x1, .i1⟩
  | .hbm, ⟨25, _⟩ => ⟨S_, .f32⟩
  | .hbm, ⟨26, _⟩ => ⟨S1024x1, .f32⟩
  | .hbm, ⟨27, _⟩ => ⟨S1024x1, .f32⟩
  | .hbm, ⟨28, _⟩ => ⟨S_, .i32⟩
  | .hbm, ⟨29, _⟩ => ⟨S1024, .i32⟩
  | .hbm, ⟨30, _⟩ => ⟨S1024, .i1⟩
  | .hbm, ⟨31, _⟩ => ⟨S_, .i32⟩
  | .hbm, ⟨32, _⟩ => ⟨S1024, .i32⟩
  | .hbm, ⟨33, _⟩ => ⟨S1024, .i32⟩
  | .hbm, ⟨34, _⟩ => ⟨S1024, .i32⟩
  | .hbm, ⟨35, _⟩ => ⟨S1024x1, .i32⟩
  | .hbm, ⟨36, _⟩ => ⟨S1, .i32⟩
  | .hbm, ⟨37, _⟩ => ⟨S_, .i32⟩
  | .hbm, ⟨38, _⟩ => ⟨S1024x1, .i32⟩
  | .hbm, ⟨39, _⟩ => ⟨S1024x1, .i1⟩
  | .hbm, ⟨40, _⟩ => ⟨S1x1, .i32⟩
  | .hbm, ⟨41, _⟩ => ⟨S1024x1, .i32⟩
  | .hbm, ⟨42, _⟩ => ⟨S1024x1, .i1⟩
  | .hbm, ⟨43, _⟩ => ⟨S1024x1, .i1⟩
  | .hbm, ⟨44, _⟩ => ⟨S_, .i1⟩
  | .hbm, ⟨45, _⟩ => ⟨S1024, .i1⟩
  | .hbm, ⟨46, _⟩ => ⟨S1024, .i32⟩
  | .hbm, ⟨47, _⟩ => ⟨S_, .i32⟩
  | .hbm, ⟨48, _⟩ => ⟨S1024, .i32⟩
  | .hbm, ⟨49, _⟩ => ⟨S1024, .i32⟩
  | .hbm, ⟨50, _⟩ => ⟨S1024x1, .i32⟩
  | .hbm, ⟨51, _⟩ => ⟨S1x100000, .i32⟩
  | .hbm, ⟨52, _⟩ => ⟨S1024x100000, .i32⟩
  | .hbm, ⟨53, _⟩ => ⟨S1024x100000, .i32⟩
  | .hbm, ⟨54, _⟩ => ⟨S1024x100000, .i1⟩
  | .hbm, ⟨55, _⟩ => ⟨S1024, .i32⟩
  | .hbm, ⟨56, _⟩ => ⟨S_, .i32⟩
  | .hbm, ⟨57, _⟩ => ⟨S1024, .i32⟩
  | .hbm, ⟨58, _⟩ => ⟨S1024, .i1⟩
  | .hbm, ⟨59, _⟩ => ⟨S_, .i32⟩
  | .hbm, ⟨60, _⟩ => ⟨S1024, .i32⟩
  | .hbm, ⟨61, _⟩ => ⟨S1024, .i32⟩
  | .hbm, ⟨62, _⟩ => ⟨S1024, .i32⟩
  | .hbm, ⟨63, _⟩ => ⟨S_, .i32⟩
  | .hbm, ⟨64, _⟩ => ⟨S1024, .i32⟩
  | .hbm, ⟨65, _⟩ => ⟨S1024, .i1⟩
  | .hbm, ⟨66, _⟩ => ⟨S_, .i32⟩
  | .hbm, ⟨67, _⟩ => ⟨S1024, .i32⟩
  | .hbm, ⟨68, _⟩ => ⟨S1024, .i32⟩
  | .hbm, ⟨69, _⟩ => ⟨S1024, .i32⟩
  | .hbm, ⟨70, _⟩ => ⟨S1024x1, .i32⟩
  | .hbm, ⟨71, _⟩ => ⟨S1024x1, .i32⟩
  | .hbm, ⟨72, _⟩ => ⟨S1024x2, .i32⟩
  | .hbm, ⟨73, _⟩ => ⟨S_, .f32⟩
  | .hbm, ⟨74, _⟩ => ⟨S1024, .f32⟩
  | .hbm, ⟨75, _⟩ => ⟨S1024x100000, .f32⟩
  | .hbm, ⟨76, _⟩ => ⟨S1024x100000, .f32⟩
  | .hbm, ⟨77, _⟩ => ⟨S1024x100000, .f32⟩
  | .hbm, ⟨78, _⟩ => ⟨S_, .f32⟩
  | .hbm, ⟨79, _⟩ => ⟨S1024, .f32⟩
  | .hbm, ⟨80, _⟩ => ⟨S_, .f32⟩
  | .hbm, ⟨81, _⟩ => ⟨S1024, .f32⟩
  | .hbm, ⟨82, _⟩ => ⟨S1024, .f32⟩
  | .hbm, ⟨83, _⟩ => ⟨S_, .f32⟩
  | .hbm, ⟨84, _⟩ => ⟨S1024, .f32⟩
  | .hbm, ⟨85, _⟩ => ⟨S1024, .f32⟩
  | .hbm, ⟨86, _⟩ => ⟨S_, .f32⟩
  | .hbm, ⟨87, _⟩ => ⟨S1024, .f32⟩
  | .hbm, ⟨88, _⟩ => ⟨S1024, .f32⟩
  | .hbm, ⟨89, _⟩ => ⟨S_, .f32⟩
  | .hbm, ⟨90, _⟩ => ⟨S1024, .f32⟩
  | .hbm, ⟨91, _⟩ => ⟨S1024, .f32⟩
  | .hbm, ⟨92, _⟩ => ⟨S1x1024, .f32⟩
  | .hbm, ⟨93, _⟩ => ⟨S1024x1024, .f32⟩
  | .hbm, ⟨94, _⟩ => ⟨S1024x1024, .f32⟩
  | .hbm, ⟨95, _⟩ => ⟨S1024x1024, .f32⟩
  | .hbm, ⟨96, _⟩ => ⟨S_, .f32⟩
  | .hbm, ⟨97, _⟩ => ⟨S1024x1, .f32⟩
  | .hbm, ⟨98, _⟩ => ⟨S1024x1, .f32⟩
  | .hbm, ⟨99, _⟩ => ⟨S1024x1024, .f32⟩
  | .hbm, ⟨100, _⟩ => ⟨S1024x1024, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | _, _ => ⟨S1024x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v1 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_c_4 : Ref sig .tc := ⟨.hbm, 47, rfl⟩
abbrev main_call1_v14 : Ref sig .tc := ⟨.hbm, 48, rfl⟩
abbrev main_v2 : Ref sig .tc := ⟨.hbm, 49, rfl⟩
abbrev main_v3 : Ref sig .tc := ⟨.hbm, 50, rfl⟩
abbrev main_v4 : Ref sig .tc := ⟨.hbm, 51, rfl⟩
abbrev main_v5 : Ref sig .tc := ⟨.hbm, 52, rfl⟩
abbrev main_v6 : Ref sig .tc := ⟨.hbm, 53, rfl⟩
abbrev main_v7 : Ref sig .tc := ⟨.hbm, 54, rfl⟩
abbrev main_v8 : Ref sig .tc := ⟨.hbm, 55, rfl⟩
abbrev main_c : Ref sig .tc := ⟨.hbm, 56, rfl⟩
abbrev main_v9 : Ref sig .tc := ⟨.hbm, 57, rfl⟩
abbrev main_v10 : Ref sig .tc := ⟨.hbm, 58, rfl⟩
abbrev main_c_0 : Ref sig .tc := ⟨.hbm, 59, rfl⟩
abbrev main_v11 : Ref sig .tc := ⟨.hbm, 60, rfl⟩
abbrev main_v12 : Ref sig .tc := ⟨.hbm, 61, rfl⟩
abbrev main_v13 : Ref sig .tc := ⟨.hbm, 62, rfl⟩
abbrev main_c_1 : Ref sig .tc := ⟨.hbm, 63, rfl⟩
abbrev main_v14 : Ref sig .tc := ⟨.hbm, 64, rfl⟩
abbrev main_v15 : Ref sig .tc := ⟨.hbm, 65, rfl⟩
abbrev main_c_2 : Ref sig .tc := ⟨.hbm, 66, rfl⟩
abbrev main_v16 : Ref sig .tc := ⟨.hbm, 67, rfl⟩
abbrev main_v17 : Ref sig .tc := ⟨.hbm, 68, rfl⟩
abbrev main_v18 : Ref sig .tc := ⟨.hbm, 69, rfl⟩
abbrev main_v19 : Ref sig .tc := ⟨.hbm, 70, rfl⟩
abbrev main_v20 : Ref sig .tc := ⟨.hbm, 71, rfl⟩
abbrev main_v21 : Ref sig .tc := ⟨.hbm, 72, rfl⟩
abbrev main_cst : Ref sig .tc := ⟨.hbm, 73, rfl⟩
abbrev main_v22 : Ref sig .tc := ⟨.hbm, 74, rfl⟩
abbrev main_v23 : Ref sig .tc := ⟨.hbm, 75, rfl⟩
abbrev main_v24 : Ref sig .tc := ⟨.hbm, 76, rfl⟩
abbrev main_v25 : Ref sig .tc := ⟨.hbm, 77, rfl⟩
abbrev main_cst_3 : Ref sig .tc := ⟨.hbm, 78, rfl⟩
abbrev main_v26 : Ref sig .tc := ⟨.hbm, 79, rfl⟩
abbrev main_cst_4 : Ref sig .tc := ⟨.hbm, 80, rfl⟩
abbrev main_v27 : Ref sig .tc := ⟨.hbm, 81, rfl⟩
abbrev main_v28 : Ref sig .tc := ⟨.hbm, 82, rfl⟩
abbrev main_cst_5 : Ref sig .tc := ⟨.hbm, 83, rfl⟩
abbrev main_v29 : Ref sig .tc := ⟨.hbm, 84, rfl⟩
abbrev main_v30 : Ref sig .tc := ⟨.hbm, 85, rfl⟩
abbrev main_cst_6 : Ref sig .tc := ⟨.hbm, 86, rfl⟩
abbrev main_v31 : Ref sig .tc := ⟨.hbm, 87, rfl⟩
abbrev main_v32 : Ref sig .tc := ⟨.hbm, 88, rfl⟩
abbrev main_cst_7 : Ref sig .tc := ⟨.hbm, 89, rfl⟩
abbrev main_v33 : Ref sig .tc := ⟨.hbm, 90, rfl⟩
abbrev main_v34 : Ref sig .tc := ⟨.hbm, 91, rfl⟩
abbrev main_v35 : Ref sig .tc := ⟨.hbm, 92, rfl⟩
abbrev main_v36 : Ref sig .tc := ⟨.hbm, 93, rfl⟩
abbrev main_v37 : Ref sig .tc := ⟨.hbm, 94, rfl⟩
abbrev main_v38 : Ref sig .tc := ⟨.hbm, 95, rfl⟩
abbrev main_cst_8 : Ref sig .tc := ⟨.hbm, 96, rfl⟩
abbrev main_v39 : Ref sig .tc := ⟨.hbm, 97, rfl⟩
abbrev main_v40 : Ref sig .tc := ⟨.hbm, 98, rfl⟩
abbrev main_v41 : Ref sig .tc := ⟨.hbm, 99, rfl⟩
abbrev main_v42 : Ref sig .tc := ⟨.hbm, 100, rfl⟩
abbrev main_cst_9 : Ref sig .tc := ⟨.hbm, 101, rfl⟩
abbrev main_v43 : Ref sig .tc := ⟨.hbm, 102, rfl⟩
abbrev main_cst_10 : Ref sig .tc := ⟨.hbm, 103, rfl⟩
abbrev main_v44 : Ref sig .tc := ⟨.hbm, 104, rfl⟩

abbrev nD : Nat := 1
abbrev τ : Topo := Topo.v7x

variable {F : FTy → Type} [FloatOps F]
-- ==== Proof.IdealSetup.lean ====
/-
  What the launch's two proofs share: the resource algebra (the SparseCore handshake's rounds, the pipeline
  library's rounds, the counters of the kernel's own transfers), and the canonical names of the TensorCore
  body's row blocks, slots and semaphores.
-/
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.Pre_in_range
public import Idealize.ShloMosaic.Lib.SparseCore.Quiescent
public import Idealize.ShloMosaic.Lib.Pipeline.KitQuiescent
public import Idealize.ShloMosaic.Lib.Ring.Trips
public import Idealize.ShloMosaic.Lib.Ring.AtN
public import Idealize.ShloMosaic.Lib.Affine
public import Idealize.ShloMosaic.Lib.Tactic

@[expose] public section

noncomputable section

namespace Cert.Proof.OfIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)

variable {F : FTy → Type} [FloatOps F]

/-! ## The resource algebra -/

/-- The handshake's rounds; beside them the pipeline's rounds and the transfers' counters. -/
abbrev UH : Type := URounds (GSem nD τ sig) ℕ
abbrev UU : Type := UH × (UR sig nD τ × Counters)

local notation "𝕄" => MT nD τ sig (HIx 1) (Elt F) ℕ UU ℕ

abbrev EH : Emb UH (MT nD τ sig (HIx 1) (Elt F) ℕ UU ℕ) := embL
/-- Where the pipeline's rounds lie. -/
def EP : Emb (UR sig nD τ) (MT nD τ sig (HIx 1) (Elt F) ℕ UU ℕ) := (Emb.inl : Emb (UR sig nD τ) (UR sig nD τ × Counters)).trans embR
instance EP_landsIn : (EP (F := F)).LandsIn (upEmb : UEmb _ (MT nD τ sig (HIx 1) (Elt F) ℕ UU ℕ)) := by
  unfold EP; infer_instance

abbrev 𝒱₀ : Variants := Variants.none
abbrev 𝒱 : Variants := 𝒱₀.lift
abbrev v₀ : 𝒱.V := Sum.inl none

omit [FloatOps F] in
theorem entails_of_eq {P Q : sProp 𝕄} (e : P = Q) : P ⊢ Q := e ▸ .rfl

/-! ## Canonical names: row block `(t, s)` of the score array, slot `s` of the ring buffer, slot `s`'s semaphore -/

abbrev aM : Memref sig .tc .hbm S1024x100000 .f32 := Memref.whole main_arg0
abbrev bufM : Memref sig .tc .vmem S4x16x100000 .f32 := Memref.whole cc1_scratch0

/-- Slot `s` receives block `4 t + s` for trip `t`: the sixteen rows from `64 t + 16 s`. -/
abbrev blkOff (s : Fin 4) (t : Fin 16) : Fin 2 → Nat := ![64 * t.val + 16 * s.val, 0]
theorem blkOff_inb (s : Fin 4) (t : Fin 16) : ∀ a, blkOff s t a + S16x100000.size a ≤ S1024x100000.size a := by
  have := t.isLt; have := s.isLt; intro a; fin_cases a
  · show 64 * t.val + 16 * s.val + 16 ≤ 1024; omega
  · show 0 + 100000 ≤ 100000; omega
abbrev slotOff (s : Fin 4) : Fin 3 → Nat := ![s.val, 0, 0]
theorem slotOff_inb (s : Fin 4) : ∀ a, slotOff s a + S1x16x100000.size a ≤ S4x16x100000.size a := by
  have := s.isLt; intro a; fin_cases a
  · show s.val + 1 ≤ 4; omega
  · show 0 + 16 ≤ 16; omega
  · show 0 + 100000 ≤ 100000; omega
abbrev semOff (s : Fin 4) : Fin 1 → Nat := ![s.val]
theorem semOff_inb (s : Fin 4) : ∀ a, semOff s a + S1.size a ≤ S4.size a := by
  have := s.isLt; intro a; fin_cases a; show s.val + 1 ≤ 4; omega

/-- The row block that slot `s` receives for trip `t`, as the body slices it. -/
def blk (s : Fin 4) (t : Fin 16) : Memref sig .tc .hbm S16x100000 .f32 :=
  aM.slice (Rect.unit (s := S1024x100000) (blkOff s t) S16x100000.size (blkOff_inb s t)) (fun _ => rfl)
/-- Slot `s` of the ring buffer, as the body slices and squeezes it. -/
def rslot (s : Fin 4) : Memref sig .tc .vmem S16x100000 .f32 :=
  (bufM.slice (Rect.unit (s := S4x16x100000) (slotOff s) S1x16x100000.size (slotOff_inb s)) (fun _ => rfl)).squeeze S16x100000 squeezes_S1x16x100000_S16x100000
/-- Slot `s`'s DMA semaphore. -/
def csm (s : Fin 4) : DmaSems sig S_ := (cc1_scratch1.slice (Rect.unit (s := S4) (semOff s) S1.size (semOff_inb s))).squeeze S_ squeezes_S1_S_

instance (s : Fin 4) : ClosedOff (slotOff s) := ⟨slotOff s, rfl⟩

/-! ### The body's printed slices are these -/

theorem csm_congr {off : Fin 1 → Nat} {s : Fin 4} (e : off = semOff s) (hh) :
    (cc1_scratch1.slice (Rect.unit (s := S4) off S1.size hh)).squeeze S_ squeezes_S1_S_ = csm s :=
  congrArg (fun A : DmaSems sig S1 => A.squeeze S_ squeezes_S1_S_) (SemArray.slice_unit_congr _ e _ _)
theorem rslot_congr {off : Fin 3 → Nat} {s : Fin 4} (e : off = slotOff s) (hh hs) :
    (bufM.slice (Rect.unit (s := S4x16x100000) off S1x16x100000.size hh) hs).squeeze S16x100000 squeezes_S1x16x100000_S16x100000 = rslot s :=
  congrArg (fun M : Memref sig .tc .vmem S1x16x100000 .f32 => M.squeeze S16x100000 squeezes_S1x16x100000_S16x100000) (Memref.slice_unit_congr _ e _ _ _ _)
theorem blk_congr {off : Fin 2 → Nat} {s : Fin 4} {t : Fin 16} (e : off = blkOff s t) (hh hs) :
    aM.slice (Rect.unit (s := S1024x100000) off S16x100000.size hh) hs = blk s t :=
  Memref.slice_unit_congr _ e _ _ _ (fun _ => rfl)

@[sl_canon] theorem semL0 (hh) : (cc1_scratch1.slice (Rect.unit (s := S4) ![0] S1.size hh)).squeeze S_ squeezes_S1_S_ = csm 0 := csm_congr (by decide) _
@[sl_canon] theorem slotL0 (hh hs) : (bufM.slice (Rect.unit (s := S4x16x100000) ![0, 0, 0] S1x16x100000.size hh) hs).squeeze S16x100000 squeezes_S1x16x100000_S16x100000 = rslot 0 := rslot_congr (by decide) _ _
@[sl_canon] theorem blkL0 (hh hs) : aM.slice (Rect.unit (s := S1024x100000) ![0, 0] S16x100000.size hh) hs = blk 0 0 := blk_congr (by decide) _ _
@[sl_canon] theorem semL1 (hh) : (cc1_scratch1.slice (Rect.unit (s := S4) ![1] S1.size hh)).squeeze S_ squeezes_S1_S_ = csm 1 := csm_congr (by decide) _
@[sl_canon] theorem slotL1 (hh hs) : (bufM.slice (Rect.unit (s := S4x16x100000) ![1, 0, 0] S1x16x100000.size hh) hs).squeeze S16x100000 squeezes_S1x16x100000_S16x100000 = rslot 1 := rslot_congr (by decide) _ _
@[sl_canon] theorem blkL1 (hh hs) : aM.slice (Rect.unit (s := S1024x100000) ![16, 0] S16x100000.size hh) hs = blk 1 0 := blk_congr (by decide) _ _
@[sl_canon] theorem semL2 (hh) : (cc1_scratch1.slice (Rect.unit (s := S4) ![2] S1.size hh)).squeeze S_ squeezes_S1_S_ = csm 2 := csm_congr (by decide) _
@[sl_canon] theorem slotL2 (hh hs) : (bufM.slice (Rect.unit (s := S4x16x100000) ![2, 0, 0] S1x16x100000.size hh) hs).squeeze S16x100000 squeezes_S1x16x100000_S16x100000 = rslot 2 := rslot_congr (by decide) _ _
@[sl_canon] theorem blkL2 (hh hs) : aM.slice (Rect.unit (s := S1024x100000) ![32, 0] S16x100000.size hh) hs = blk 2 0 := blk_congr (by decide) _ _
@[sl_canon] theorem semL3 (hh) : (cc1_scratch1.slice (Rect.unit (s := S4) ![3] S1.size hh)).squeeze S_ squeezes_S1_S_ = csm 3 := csm_congr (by decide) _
@[sl_canon] theorem slotL3 (hh hs) : (bufM.slice (Rect.unit (s := S4x16x100000) ![3, 0, 0] S1x16x100000.size hh) hs).squeeze S16x100000 squeezes_S1x16x100000_S16x100000 = rslot 3 := rslot_congr (by decide) _ _
@[sl_canon] theorem blkL3 (hh hs) : aM.slice (Rect.unit (s := S1024x100000) ![48, 0] S16x100000.size hh) hs = blk 3 0 := blk_congr (by decide) _ _

/-- A trip's number, as a block's. -/
theorem trips_eq : k1_t1_loop.trips = 16 := by decide +kernel
theorem trip_lt (k : Fin k1_t1_loop.trips) : k.val < 16 := Nat.lt_of_lt_of_eq k.isLt trips_eq

theorem offW0 (k : Fin k1_t1_loop.trips) : k1_off1 k 0#32 = blkOff 0 (Ring.bk 16 k.val) :=
  (k1_off1_eq k 0).trans (by simp only [blkOff, Ring.bk_val (trip_lt k)])
@[sl_canon] theorem blkW0 (k : Fin k1_t1_loop.trips) (hh hs) :
    aM.slice (Rect.unit (s := S1024x100000) (k1_off1 k 0#32) S16x100000.size hh) hs = blk 0 (Ring.bk 16 k.val) := blk_congr (offW0 k) _ _
theorem offI0 (k : Fin k1_t1_loop.trips) (hk : k.val + 1 < 16) : k1_off3 k = blkOff 0 (Ring.bk 16 (k.val + 1)) :=
  (k1_off3_eq k).trans (by rw [blkOff, Ring.bk_val hk]; congr 1)
@[sl_canon] theorem blkI0 (k : Fin k1_t1_loop.trips) (hk : k.val + 1 < 16) (hh hs) :
    aM.slice (Rect.unit (s := S1024x100000) (k1_off3 k) S16x100000.size hh) hs = blk 0 (Ring.bk 16 (k.val + 1)) := blk_congr (offI0 k hk) _ _
theorem cond0_iff : ∀ k : Fin k1_t1_loop.trips, k1_cond1 k = 1#1 ↔ k.val + 1 < 16 := by decide +kernel
theorem offW1 (k : Fin k1_t1_loop.trips) : k1_off1 k 1#32 = blkOff 1 (Ring.bk 16 k.val) :=
  (k1_off1_eq k 1).trans (by simp only [blkOff, Ring.bk_val (trip_lt k)])
@[sl_canon] theorem blkW1 (k : Fin k1_t1_loop.trips) (hh hs) :
    aM.slice (Rect.unit (s := S1024x100000) (k1_off1 k 1#32) S16x100000.size hh) hs = blk 1 (Ring.bk 16 k.val) := blk_congr (offW1 k) _ _
theorem offI1 (k : Fin k1_t1_loop.trips) (hk : k.val + 1 < 16) : k1_off4 k = blkOff 1 (Ring.bk 16 (k.val + 1)) :=
  (k1_off4_eq k).trans (by rw [blkOff, Ring.bk_val hk]; congr 1)
@[sl_canon] theorem blkI1 (k : Fin k1_t1_loop.trips) (hk : k.val + 1 < 16) (hh hs) :
    aM.slice (Rect.unit (s := S1024x100000) (k1_off4 k) S16x100000.size hh) hs = blk 1 (Ring.bk 16 (k.val + 1)) := blk_congr (offI1 k hk) _ _
theorem cond1_iff : ∀ k : Fin k1_t1_loop.trips, k1_cond2 k = 1#1 ↔ k.val + 1 < 16 := by decide +kernel
theorem offW2 (k : Fin k1_t1_loop.trips) : k1_off1 k 2#32 = blkOff 2 (Ring.bk 16 k.val) :=
  (k1_off1_eq k 2).trans (by simp only [blkOff, Ring.bk_val (trip_lt k)])
@[sl_canon] theorem blkW2 (k : Fin k1_t1_loop.trips) (hh hs) :
    aM.slice (Rect.unit (s := S1024x100000) (k1_off1 k 2#32) S16x100000.size hh) hs = blk 2 (Ring.bk 16 k.val) := blk_congr (offW2 k) _ _
theorem offI2 (k : Fin k1_t1_loop.trips) (hk : k.val + 1 < 16) : k1_off5 k = blkOff 2 (Ring.bk 16 (k.val + 1)) :=
  (k1_off5_eq k).trans (by rw [blkOff, Ring.bk_val hk]; congr 1)
@[sl_canon] theorem blkI2 (k : Fin k1_t1_loop.trips) (hk : k.val + 1 < 16) (hh hs) :
    aM.slice (Rect.unit (s := S1024x100000) (k1_off5 k) S16x100000.size hh) hs = blk 2 (Ring.bk 16 (k.val + 1)) := blk_congr (offI2 k hk) _ _
theorem cond2_iff : ∀ k : Fin k1_t1_loop.trips, k1_cond3 k = 1#1 ↔ k.val + 1 < 16 := by decide +kernel
theorem offW3 (k : Fin k1_t1_loop.trips) : k1_off1 k 3#32 = blkOff 3 (Ring.bk 16 k.val) :=
  (k1_off1_eq k 3).trans (by simp only [blkOff, Ring.bk_val (trip_lt k)])
@[sl_canon] theorem blkW3 (k : Fin k1_t1_loop.trips) (hh hs) :
    aM.slice (Rect.unit (s := S1024x100000) (k1_off1 k 3#32) S16x100000.size hh) hs = blk 3 (Ring.bk 16 k.val) := blk_congr (offW3 k) _ _
theorem offI3 (k : Fin k1_t1_loop.trips) (hk : k.val + 1 < 16) : k1_off6 k = blkOff 3 (Ring.bk 16 (k.val + 1)) :=
  (k1_off6_eq k).trans (by rw [blkOff, Ring.bk_val hk]; congr 1)
@[sl_canon] theorem blkI3 (k : Fin k1_t1_loop.trips) (hk : k.val + 1 < 16) (hh hs) :
    aM.slice (Rect.unit (s := S1024x100000) (k1_off6 k) S16x100000.size hh) hs = blk 3 (Ring.bk 16 (k.val + 1)) := blk_congr (offI3 k hk) _ _
theorem cond3_iff : ∀ k : Fin k1_t1_loop.trips, k1_cond4 k = 1#1 ↔ k.val + 1 < 16 := by decide +kernel

end Cert.Proof.OfIdeal

end

end
-- ==== Proof.IdealBody.lean ====
/-
  The TensorCore body: a ring of four slots, each on its own semaphore, through which the 64 row blocks of the
  score array pass (block `4 t + s` through slot `s` for trip `t`); each trip adds the four blocks' terms to the two
  running sums. The body's result is stated in closed form from what the arrays hold.
-/
module

public import proofs.«01_k».proof.Proof.IdealSetup

@[expose] public section

noncomputable section

namespace Cert.Proof.OfIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Pipeline (Dat Cfg Window BodyObligation cellOf)

variable {F : FTy → Type} [FloatOps F]

local notation "𝕄" => MT nD τ sig (HIx 1) (Elt F) ℕ UU ℕ

/-! ## The pieces: a block home, a slot held, a slot's semaphore, a slot in flight -/

section Pieces
variable (c : Dev nD) (X : Buf (Elt F) (aM.view.loc (c : Thread nD τ)))

abbrev cellP (s : Fin 4) : sProp 𝕄 := semVal ((c : Thread nD τ), SemLoc.dma (csm s).sem) 0
abbrev slotP (s : Fin 4) (f : Buf (Elt F) ((rslot s).view.loc (c : Thread nD τ))) : sProp 𝕄 :=
  (rslot s).view.loc (c : Thread nD τ) ↦[(rslot s).view.set]{fullShare} f
/-- Row block `(t, s)` held on its elements. -/
abbrev homeP (s : Fin 4) (t : Fin 16) : sProp 𝕄 := (blk s t).view.loc (c : Thread nD τ) ↦[(blk s t).view.set]{fullShare} X
abbrev payload (s : Fin 4) (t : Fin 16) : S16x100000.Idx → Elt F .f32 := ReadAs.same.apply ((blk s t).view.read (Elt F) X)
/-- What the transfer of block `(t, s)` leaves in slot `s`: the block, written whole. -/
abbrev landed (s : Fin 4) (t : Fin 16) (f : Buf (Elt F) ((rslot s).view.loc (c : Thread nD τ))) : Buf (Elt F) ((rslot s).view.loc (c : Thread nD τ)) :=
  (rslot s).view.writes (Elt F) f [⟨Rect.whole S16x100000, payload c X s t⟩]
/-- What one block's transfer adds to its semaphore. -/
abbrev NN : ℕ := 200192
/-- Slot `s` in flight with block `(t, s)`, issued over `f`. -/
abbrev flightP (s : Fin 4) (t : Fin 16) (f : Buf (Elt F) ((rslot s).view.loc (c : Thread nD τ))) : sProp 𝕄 :=
  Transfers.Flight countersEmb (c : Thread nD τ) (SemLoc.dma (csm s).sem) (none : HIx 1) NN iprop(slotP c s (landed c X s t f) ∗ homeP c X s t)

/-- Slot `s` before trip `k`: free after the last trip. -/
abbrev freeP (s : Fin 4) : sProp 𝕄 := iprop(cellP c s ∗ ∃ f, slotP c s f)
/-- The blocks of slot `s` that are home before trip `k`. -/
abbrev homesP (s : Fin 4) (k : ℕ) : sProp 𝕄 := bigSep (Ring.homeSet 1 k) (homeP c X s)

/-- Ring `s` before trip `k`: block `(k, s)` in flight while there is one, the slot's other blocks home. -/
def ringP (s : Fin 4) (k : ℕ) : sProp 𝕄 :=
  iprop(homesP c X s k ∗ Ring.roleAt (freeP c s) (fun t : Fin 16 => iprop(∃ f, flightP c X s t f)) k)

/-- The flight a trip issues, as the execution states it: over the block the slot held before. -/
theorem flightP_after (s : Fin 4) (t t' : Fin 16) :
    flightP c X s t' ((rslot s).view.writes (Elt F) (rslot s).view.junk [⟨Rect.whole S16x100000, payload c X s t⟩])
      = Transfers.Flight countersEmb (c : Thread nD τ) (SemLoc.dma (csm s).sem) (none : HIx 1) NN
          iprop(((rslot s).view.loc (c : Thread nD τ) ↦[(rslot s).view.set]{fullShare}
                  (rslot s).view.writes (Elt F) (rslot s).view.junk [⟨Rect.whole S16x100000, payload c X s t'⟩, ⟨Rect.whole S16x100000, payload c X s t⟩])
                ∗ homeP c X s t') := by
  simp only [flightP, landed, slotP, NN, View.writes]

end Pieces

section Trip

variable (c : Dev nD) (X : Buf (Elt F) (aM.view.loc (c : Thread nD τ)))
  (arg1 : Memref sig .tc .vmem S1x100000 .i32) (harg1 : arg1.IsWhole)
  (arg2 : Memref sig .tc .vmem S1024x1 .i32) (harg2 : arg2.IsWhole)
  (arg3 : Memref sig .tc .vmem S1024x1 .i32) (harg3 : arg3.IsWhole)
  (arg4 : Memref sig .tc .vmem S1024x1 .f32) (harg4 : arg4.IsWhole)
  (arg5 : Memref sig .tc .smem S1x1 .f32) (harg5 : arg5.IsWhole)
  (v0 : IVec S1x100000 32) (v1 : Vec F S1x100000 .i32)
  (g2 : Buf (Elt F) (arg2.view.loc (c : Thread nD τ))) (g3 : Buf (Elt F) (arg3.view.loc (c : Thread nD τ)))
  (g4 : Buf (Elt F) (arg4.view.loc (c : Thread nD τ)))
  (R : Set (SemLoc sig × HIx 1)) (hR : ∀ l, (l, (none : HIx 1)) ∈ R)

/-- The columns the trips read. -/
abbrev colsP : sProp 𝕄 :=
  iprop((arg2.view.loc (c : Thread nD τ) ↦[arg2.view.set]{fullShare} g2) ∗ (arg3.view.loc (c : Thread nD τ) ↦[arg3.view.set]{fullShare} g3)
    ∗ (arg4.view.loc (c : Thread nD τ) ↦[arg4.view.set]{fullShare} g4))

/-- Everything before trip `k`; the waits recorded so far lie in `R`. -/
def resAt (k : ℕ) : sProp 𝕄 :=
  iprop(colsP c arg2 arg3 arg4 g2 g3 g4 ∗ (∃ W, ⌜∀ p ∈ W, p ∈ R⌝ ∗ owes (c : Thread nD τ) 0 W)
    ∗ ringP c X 0 k ∗ ringP c X 1 k ∗ ringP c X 2 k ∗ ringP c X 3 k)

/-! ### What one trip computes -/

omit [FloatOps F] in
theorem off2_inb (k : Fin k1_t1_loop.trips) (s : Fin 4) : ∀ a, k1_off2 k (BitVec.ofNat 32 s.val) a + S16x1.size a ≤ S1024x1.size a := k1_off2_inb k s

/-- The block of scores a trip loads from slot `s`. -/
abbrev xLd (s : Fin 4) (t : Fin 16) : Vec F S1x16x100000 .f32 :=
  bufM.view.readAt (Elt F) (Rect.unit (s := S4x16x100000) (slotOff s) S1x16x100000.size (slotOff_inb s)).toLoadRect
    ((rslot s).view.writes (Elt F) (rslot s).view.junk [⟨Rect.whole S16x100000, payload c X s t⟩])
/-- The sixteen rows of a column that go with block `(k, s)`. -/
abbrev cLd {e : EltTy} (M : Memref sig .tc .vmem S1024x1 e) (g : Buf (Elt F) (M.view.loc (c : Thread nD τ))) (k : Fin k1_t1_loop.trips) (s : Fin 4) : Vec F S16x1 e :=
  M.view.readAt (Elt F) (Rect.unit (s := S1024x1) (k1_off2 k (BitVec.ofNat 32 s.val)) S16x1.size (off2_inb k s)).toLoadRect g

/-- One block's addition to the first running sum, from the block, its rows' indexes and their labels. -/
abbrev accA (v0 : IVec S1x100000 32) (v2 : IVec S1x100000 32) (a : F .f32) (x : Vec F S1x16x100000 .f32) (ix lb : Vec F S16x1 .i32) : F .f32 :=
  k1_pay5 a (k1_pay3 v0 x ix) (k1_pay4 v0 v2 x ix lb)
/-- One trip's addition to the two running sums. -/
def tripVal (k : Fin k1_t1_loop.trips) (acc : F .f32 × F .f32) : F .f32 × F .f32 :=
  let A (s : Fin 4) (a : F .f32) : F .f32 := accA v0 (k1_pay18 v1) a (xLd c X s (Ring.bk 16 k.val)) (cLd c arg3 g3 k s) (cLd c arg2 g2 k s)
  let B (s : Fin 4) (b : F .f32) : F .f32 := k1_pay6 b (cLd c arg4 g4 k s)
  (A 3 (A 2 (A 1 (A 0 acc.1))), B 3 (B 2 (B 1 (B 0 acc.2))))

abbrev tripG (k : Fin k1_t1_loop.trips) (acc : F .f32 × F .f32) : Prog (TpuEff nD τ sig (Elt F) Λ₀ .tc) (F .f32 × F .f32) :=
  k1_t1_body (F := F) aM (Memref.isWhole_whole _) arg1 harg1 arg2 harg2 arg3 harg3 arg4 harg4 arg5 harg5 bufM (Memref.isWhole_whole _) cc1_scratch1 v0 v1 k acc

/-- The statement of one trip. -/
abbrev TripRuns (k : Fin k1_t1_loop.trips) (acc : F .f32 × F .f32) : Prop :=
  resAt c X arg2 arg3 arg4 g2 g3 g4 R k ⊢ wp frame (wpE (defs₀ (F := F)) 𝒱₀ (c : Thread nD τ) none) Set.univ
      (tripG arg1 harg1 arg2 harg2 arg3 harg3 arg4 harg4 arg5 harg5 v0 v1 k acc)
      (fun r => iprop(⌜r = tripVal c X arg2 arg3 arg4 v0 v1 g2 g3 g4 k acc⌝ ∗ resAt c X arg2 arg3 arg4 g2 g3 g4 R (k.val + 1)))

include hR in
set_option maxHeartbeats 2000000 in
/-- A trip but the last: block `(k, s)` waited, read, and block `(k + 1, s)` issued, for each slot. -/
theorem tripMid (k : Fin k1_t1_loop.trips) (hk : k.val + 1 < 16) (acc : F .f32 × F .f32) :
    TripRuns c X arg1 harg1 arg2 harg2 arg3 harg3 arg4 harg4 arg5 harg5 v0 v1 g2 g3 g4 R k acc := by
  have hlt : k.val < 16 := by omega
  have hc0 : k1_cond1 k = 1#1 := (cond0_iff k).mpr hk
  have hc1 : k1_cond2 k = 1#1 := (cond1_iff k).mpr hk
  have hc2 : k1_cond3 k = 1#1 := (cond2_iff k).mpr hk
  have hc3 : k1_cond4 k = 1#1 := (cond3_iff k).mpr hk
  have hout : ∀ s, homesP c X s k.val = iprop(homeP c X s (Ring.bk 16 (k.val + 1)) ∗ bigSep ((Ring.homeSet 1 k.val).erase (Ring.bk 16 (k.val + 1))) (homeP c X s)) := by
    intro s; unfold homesP; conv_lhs => rw [Ring.homeSet_out 1 k.val hk, bigSep_insert (Ring.bkL_not_mem_erase 1 k.val)]
    rfl
  have hin : ∀ s, homesP c X s (k.val + 1) = iprop(homeP c X s (Ring.bk 16 k.val) ∗ bigSep ((Ring.homeSet 1 k.val).erase (Ring.bk 16 (k.val + 1))) (homeP c X s)) := by
    intro s; unfold homesP; conv_lhs => rw [Ring.homeSet_succ 1 k.val hk, bigSep_insert (Ring.bk_not_mem_erase 1 k.val hlt (by decide))]
    rfl
  unfold TripRuns resAt ringP
  simp only [hout, hin, Ring.roleAt_of_lt _ _ k.val hlt, Ring.roleAt_of_lt _ _ (k.val + 1) hk]
  iintro ⟨⟨H2, H3, H4⟩, ⟨%W, %hW, HW⟩, ⟨⟨Hg0, Hr0⟩, ⟨%f0, HF0⟩⟩, ⟨⟨Hg1, Hr1⟩, ⟨%f1, HF1⟩⟩, ⟨⟨Hg2, Hr2⟩, ⟨%f2, HF2⟩⟩, ⟨⟨Hg3, Hr3⟩, ⟨%f3, HF3⟩⟩⟩
  dsimp only [tripG]
  sl_unfold [k1_t1_body]
  sl_exec
  sl_step
  isplitr
  · ipureintro; rfl
  isplitl [H2 H3 H4]
  · isplitl [H2]; · iexact H2
    isplitl [H3]; · iexact H3
    iexact H4
  isplitl [HW]
  · iexists _; isplitr; swap
    · iexact HW
    · ipureintro; intro p hp
      simp only [Finset.mem_insert] at hp
      rcases hp with rfl | rfl | rfl | rfl | hp
      · exact hR _
      · exact hR _
      · exact hR _
      · exact hR _
      · exact hW p hp
  isplitl [HF0_src Hr0 HF0]
  · isplitl [HF0_src Hr0]
    · isplitl [HF0_src]; · iexact HF0_src
      iexact Hr0
    iexists ((rslot 0).view.writes (Elt F) (rslot 0).view.junk [⟨Rect.whole S16x100000, payload c X 0 (Ring.bk 16 k.val)⟩])
    irw [flightP_after]
    iexact HF0
  isplitl [HF1_src Hr1 HF1]
  · isplitl [HF1_src Hr1]
    · isplitl [HF1_src]; · iexact HF1_src
      iexact Hr1
    iexists ((rslot 1).view.writes (Elt F) (rslot 1).view.junk [⟨Rect.whole S16x100000, payload c X 1 (Ring.bk 16 k.val)⟩])
    irw [flightP_after]
    iexact HF1
  isplitl [HF2_src Hr2 HF2]
  · isplitl [HF2_src Hr2]
    · isplitl [HF2_src]; · iexact HF2_src
      iexact Hr2
    iexists ((rslot 2).view.writes (Elt F) (rslot 2).view.junk [⟨Rect.whole S16x100000, payload c X 2 (Ring.bk 16 k.val)⟩])
    irw [flightP_after]
    iexact HF2
  isplitl [HF3_src Hr3]
  · isplitl [HF3_src]; · iexact HF3_src
    iexact Hr3
  iexists ((rslot 3).view.writes (Elt F) (rslot 3).view.junk [⟨Rect.whole S16x100000, payload c X 3 (Ring.bk 16 k.val)⟩])
  irw [flightP_after]
  iexact HF3

include hR in
set_option maxHeartbeats 2000000 in
/-- The last trip issues nothing: the slots are left free. -/
theorem tripLast (k : Fin k1_t1_loop.trips) (hk : ¬ k.val + 1 < 16) (acc : F .f32 × F .f32) :
    TripRuns c X arg1 harg1 arg2 harg2 arg3 harg3 arg4 harg4 arg5 harg5 v0 v1 g2 g3 g4 R k acc := by
  have hlt : k.val < 16 := trip_lt k
  have hc0 : ¬ k1_cond1 k = 1#1 := fun h => hk ((cond0_iff k).mp h)
  have hc1 : ¬ k1_cond2 k = 1#1 := fun h => hk ((cond1_iff k).mp h)
  have hc2 : ¬ k1_cond3 k = 1#1 := fun h => hk ((cond2_iff k).mp h)
  have hc3 : ¬ k1_cond4 k = 1#1 := fun h => hk ((cond3_iff k).mp h)
  have hin : ∀ s, homesP c X s (k.val + 1) = iprop(homeP c X s (Ring.bk 16 k.val) ∗ homesP c X s k.val) := by
    intro s; unfold homesP; conv_lhs => rw [Ring.homeSet_succ_tail 1 k.val (by omega) hlt, bigSep_insert (Ring.bk_not_mem_homeSet 1 k.val hlt (by decide))]
    rfl
  unfold TripRuns resAt ringP
  simp only [hin, Ring.roleAt_of_lt _ _ k.val hlt, Ring.roleAt_of_le _ _ (k.val + 1) (show 16 ≤ k.val + 1 by omega)]
  iintro ⟨⟨H2, H3, H4⟩, ⟨%W, %hW, HW⟩, ⟨Hr0, ⟨%f0, HF0⟩⟩, ⟨Hr1, ⟨%f1, HF1⟩⟩, ⟨Hr2, ⟨%f2, HF2⟩⟩, ⟨Hr3, ⟨%f3, HF3⟩⟩⟩
  dsimp only [tripG]
  sl_unfold [k1_t1_body]
  sl_exec
  sl_step
  isplitr
  · ipureintro; rfl
  isplitl [H2 H3 H4]
  · isplitl [H2]; · iexact H2
    isplitl [H3]; · iexact H3
    iexact H4
  isplitl [HW]
  · iexists _; isplitr; swap
    · iexact HW
    · ipureintro; intro p hp
      simp only [Finset.mem_insert] at hp
      rcases hp with rfl | rfl | rfl | rfl | hp
      · exact hR _
      · exact hR _
      · exact hR _
      · exact hR _
      · exact hW p hp
  isplitl [HF0_src Hr0 HF0 HF0_dst]
  · isplitl [HF0_src Hr0]
    · isplitl [HF0_src]; · iexact HF0_src
      iexact Hr0
    isplitl [HF0]; · iexact HF0
    iexists _; iexact HF0_dst
  isplitl [HF1_src Hr1 HF1 HF1_dst]
  · isplitl [HF1_src Hr1]
    · isplitl [HF1_src]; · iexact HF1_src
      iexact Hr1
    isplitl [HF1]; · iexact HF1
    iexists _; iexact HF1_dst
  isplitl [HF2_src Hr2 HF2 HF2_dst]
  · isplitl [HF2_src Hr2]
    · isplitl [HF2_src]; · iexact HF2_src
      iexact Hr2
    isplitl [HF2]; · iexact HF2
    iexists _; iexact HF2_dst
  isplitl [HF3_src Hr3]
  · isplitl [HF3_src]; · iexact HF3_src
    iexact Hr3
  isplitl [HF3]; · iexact HF3
  iexists _; iexact HF3_dst

include hR in
theorem tripRun (k : Fin k1_t1_loop.trips) (acc : F .f32 × F .f32) :
    TripRuns c X arg1 harg1 arg2 harg2 arg3 harg3 arg4 harg4 arg5 harg5 v0 v1 g2 g3 g4 R k acc := by
  by_cases hk : k.val + 1 < 16
  · exact tripMid c X arg1 harg1 arg2 harg2 arg3 harg3 arg4 harg4 arg5 harg5 v0 v1 g2 g3 g4 R hR k hk acc
  · exact tripLast c X arg1 harg1 arg2 harg2 arg3 harg3 arg4 harg4 arg5 harg5 v0 v1 g2 g3 g4 R hR k hk acc

/-- The two running sums before trip `k`. -/
def accAt (init : F .f32 × F .f32) : ℕ → F .f32 × F .f32
  | 0 => init
  | k + 1 => if h : k < k1_t1_loop.trips then tripVal c X arg2 arg3 arg4 v0 v1 g2 g3 g4 ⟨k, h⟩ (accAt init k) else accAt init k

/-- The loop's invariant: the running sums are `accAt`'s, the rings are at trip `k`. -/
def loopI (init : F .f32 × F .f32) (k : ℕ) (acc : F .f32 × F .f32) : sProp 𝕄 :=
  iprop(⌜acc = accAt c X arg2 arg3 arg4 v0 v1 g2 g3 g4 init k⌝ ∗ resAt c X arg2 arg3 arg4 g2 g3 g4 R k)

include hR in
theorem loopStep (init : F .f32 × F .f32) (k : Fin k1_t1_loop.trips) (acc : F .f32 × F .f32) :
    loopI c X arg2 arg3 arg4 v0 v1 g2 g3 g4 R init k acc ⊢ wp frame (wpE (defs₀ (F := F)) 𝒱₀ (c : Thread nD τ) none) Set.univ
      (tripG arg1 harg1 arg2 harg2 arg3 harg3 arg4 harg4 arg5 harg5 v0 v1 k acc) (loopI c X arg2 arg3 arg4 v0 v1 g2 g3 g4 R init (k.val + 1)) := by
  have e : accAt c X arg2 arg3 arg4 v0 v1 g2 g3 g4 init (k.val + 1) = tripVal c X arg2 arg3 arg4 v0 v1 g2 g3 g4 k (accAt c X arg2 arg3 arg4 v0 v1 g2 g3 g4 init k.val) := by
    rw [accAt, dif_pos k.isLt]
  unfold loopI
  rw [e]
  iintro ⟨%ha, H⟩
  rw [← ha]
  iapply (tripRun c X arg1 harg1 arg2 harg2 arg3 harg3 arg4 harg4 arg5 harg5 v0 v1 g2 g3 g4 R hR k acc)
  iexact H

end Trip

/-! ## The body -/

section Body

variable (c : Dev nD) (X : Buf (Elt F) (aM.view.loc (c : Thread nD τ)))
  (arg1 : Memref sig .tc .vmem S1x100000 .i32) (harg1 : arg1.IsWhole)
  (arg2 : Memref sig .tc .vmem S1024x1 .i32) (harg2 : arg2.IsWhole)
  (arg3 : Memref sig .tc .vmem S1024x1 .i32) (harg3 : arg3.IsWhole)
  (arg4 : Memref sig .tc .vmem S1024x1 .f32) (harg4 : arg4.IsWhole)
  (arg5 : Memref sig .tc .smem S1x1 .f32) (harg5 : arg5.IsWhole)
  (g1 : Buf (Elt F) (arg1.view.loc (c : Thread nD τ)))
  (g2 : Buf (Elt F) (arg2.view.loc (c : Thread nD τ))) (g3 : Buf (Elt F) (arg3.view.loc (c : Thread nD τ)))
  (g4 : Buf (Elt F) (arg4.view.loc (c : Thread nD τ))) (g5 : Buf (Elt F) (arg5.view.loc (c : Thread nD τ)))
  (R : Set (SemLoc sig × HIx 1)) (hR : ∀ l, (l, (none : HIx 1)) ∈ R)

abbrev bodyG : Prog (TpuEff nD τ sig (Elt F) Λ₀ .tc) PUnit :=
  cc1__tc_body (F := F) aM (Memref.isWhole_whole _) arg1 harg1 arg2 harg2 arg3 harg3 arg4 harg4 arg5 harg5 bufM (Memref.isWhole_whole _) cc1_scratch1

/-- The body's result: the last combination of the two running sums after sixteen trips. -/
def outVal : F .f32 :=
  let a := accAt c X arg2 arg3 arg4 (iota .tc S1x100000 32 [1] iota_S1x100000_d1_w32)
    (arg1.view.readAt (Elt F) (Rect.unit (s := S1x100000) ![0, 0] S1x100000.size inb_S1x100000_S1x100000_0_0).toLoadRect g1) g2 g3 g4
    (Scalar.ofBits .f32 0x00000000#32, Scalar.ofBits .f32 0x00000000#32) k1_t1_loop.trips
  k1_pay1 a.1 a.2

/-- Ring `s` as the body is handed it. -/
abbrev ring0 (s : Fin 4) : sProp 𝕄 := iprop(homeP c X s 0 ∗ homesP c X s 0 ∗ cellP c s ∗ ∃ f, slotP c s f)
/-- Ring `s` as the body leaves it. -/
abbrev ringE (s : Fin 4) : sProp 𝕄 := iprop(bigSep Finset.univ (homeP c X s) ∗ cellP c s ∗ ∃ f, slotP c s f)

abbrev labP : sProp 𝕄 := iprop(arg1.view.loc (c : Thread nD τ) ↦[arg1.view.set]{fullShare} g1)
abbrev outP (g : Buf (Elt F) (arg5.view.loc (c : Thread nD τ))) : sProp 𝕄 := iprop(arg5.view.loc (c : Thread nD τ) ↦[arg5.view.set]{fullShare} g)
/-- What the body stores. -/
abbrev outBuf : Buf (Elt F) (arg5.view.loc (c : Thread nD τ)) :=
  arg5.view.writes (Elt F) g5 [⟨Rect.unit (s := S1x1) ![0, 0] S1x1.size inb_S1x1_S1x1_0_0, fun _ => outVal c X arg1 arg2 arg3 arg4 g1 g2 g3 g4⟩]

theorem bk_zero : Ring.bk 16 0 = 0 := Fin.ext (by rfl)
theorem ringP_zero (s : Fin 4) : ringP c X s 0 = iprop(homesP c X s 0 ∗ ∃ f, flightP c X s 0 f) := by
  unfold ringP; rw [Ring.roleAt_of_lt _ _ 0 (by decide), bk_zero]
theorem ringP_end (s : Fin 4) : ringP c X s k1_t1_loop.trips = ringE c X s := by
  unfold ringP homesP ringE; rw [trips_eq, Ring.roleAt_of_le _ _ 16 (le_refl _), Ring.homeSet_last 1 16 (le_refl _)]

include hR in
set_option maxHeartbeats 2000000 in
theorem bodyRun (W : Waits sig (HIx 1)) (hW : ∀ p ∈ W, p ∈ R) (Q : PUnit → sProp 𝕄) :
    iprop((labP c arg1 g1 ∗ colsP c arg2 arg3 arg4 g2 g3 g4 ∗ outP c arg5 g5 ∗ owes (c : Thread nD τ) 0 W
          ∗ ring0 c X 0 ∗ ring0 c X 1 ∗ ring0 c X 2 ∗ ring0 c X 3)
        ∗ ((labP c arg1 g1 ∗ colsP c arg2 arg3 arg4 g2 g3 g4 ∗ outP c arg5 (outBuf c X arg1 arg2 arg3 arg4 arg5 g1 g2 g3 g4 g5)
          ∗ (∃ W, ⌜∀ p ∈ W, p ∈ R⌝ ∗ owes (c : Thread nD τ) 0 W)
          ∗ ringE c X 0 ∗ ringE c X 1 ∗ ringE c X 2 ∗ ringE c X 3) -∗ Q ⟨⟩))
      ⊢ wp frame (wpE (defs₀ (F := F)) 𝒱₀ (c : Thread nD τ) none) Set.univ
        (bodyG arg1 harg1 arg2 harg2 arg3 harg3 arg4 harg4 arg5 harg5) Q := by
  iintro ⟨⟨H1, ⟨H2, H3, H4⟩, H5, HW, ⟨Hg0, Hr0, Hc0, ⟨%f0, Hs0⟩⟩, ⟨Hg1, Hr1, Hc1, ⟨%f1, Hs1⟩⟩, ⟨Hg2, Hr2, Hc2, ⟨%f2, Hs2⟩⟩, ⟨Hg3, Hr3, Hc3, ⟨%f3, Hs3⟩⟩⟩, Hk⟩
  dsimp only [bodyG]
  sl_exec
  sl_for (loopI c X arg2 arg3 arg4 (iota .tc S1x100000 32 [1] iota_S1x100000_d1_w32)
    (arg1.view.readAt (Elt F) (Rect.unit (s := S1x100000) ![0, 0] S1x100000.size inb_S1x100000_S1x100000_0_0).toLoadRect g1) g2 g3 g4 R
    (Scalar.ofBits .f32 0x00000000#32, Scalar.ofBits .f32 0x00000000#32)) $$ [H2 H3 H4 HW Hr0 Hr1 Hr2 Hr3 Hc0 Hc1 Hc2 Hc3]
  · intro k acc; exact loopStep c X arg1 harg1 arg2 harg2 arg3 harg3 arg4 harg4 arg5 harg5 _ _ g2 g3 g4 R hR _ k acc
  · unfold loopI resAt
    rw [ringP_zero, ringP_zero, ringP_zero, ringP_zero]
    have hz : (bodyRun.sl.cst, bodyRun.sl.cst) = accAt c X arg2 arg3 arg4 (iota .tc S1x100000 32 [1] iota_S1x100000_d1_w32)
      (arg1.view.readAt (Elt F) (Rect.unit (s := S1x100000) ![0, 0] S1x100000.size inb_S1x100000_S1x100000_0_0).toLoadRect g1) g2 g3 g4
      (Scalar.ofBits .f32 0x00000000#32, Scalar.ofBits .f32 0x00000000#32) 0 := rfl
    isplitr; · ipureintro; exact hz
    isplitl [H2 H3 H4]
    · isplitl [H2]; · iexact H2
      isplitl [H3]; · iexact H3
      iexact H4
    isplitl [HW]
    · iexists W; isplitr; · ipureintro; exact hW
      iexact HW
    isplitl [Hr0 Hc0]
    · isplitl [Hr0]; · iexact Hr0
      iexists f0; iexact Hc0
    isplitl [Hr1 Hc1]
    · isplitl [Hr1]; · iexact Hr1
      iexists f1; iexact Hc1
    isplitl [Hr2 Hc2]
    · isplitl [Hr2]; · iexact Hr2
      iexists f2; iexact Hc2
    isplitl [Hr3]; · iexact Hr3
    iexists f3; iexact Hc3
  iintro %acc HI
  unfold loopI resAt
  rw [show Scf.trips k1_t1_loop.lb k1_t1_loop.ub k1_t1_loop.st = k1_t1_loop.trips from rfl, ringP_end, ringP_end, ringP_end, ringP_end]
  icases HI with ⟨%ha, ⟨⟨H2, H3, H4⟩, ⟨%W', %hW', HW⟩, Hr0, Hr1, Hr2, Hr3⟩⟩
  obtain ⟨a, b⟩ := acc
  sl_exec
  sl_step
  iapply Hk
  isplitl [H1]; · iexact H1
  isplitl [H2 H3 H4]
  · isplitl [H2]; · iexact H2
    isplitl [H3]; · iexact H3
    iexact H4
  isplitl [H5]
  · have ho : outVal c X arg1 arg2 arg3 arg4 g1 g2 g3 g4 = k1_pay1 a b := by
      unfold outVal
      exact congrArg (fun r : F .f32 × F .f32 => k1_pay1 r.1 r.2) ha.symm
    unfold outP outBuf
    rw [ho]
    iexact H5
  isplitl [HW]
  · iexists W'; isplitr; · ipureintro; exact hW'
    iexact HW
  isplitl [Hr0]; · iexact Hr0
  isplitl [Hr1]; · iexact Hr1
  isplitl [Hr2]; · iexact Hr2
  iexact Hr3

end Body

end Cert.Proof.OfIdeal

end

end
-- ==== Proof.IdealTile.lean ====
/-
  The SparseCore call: each of the thirty-two tiles fetches its thirty-two indexes, gathers the labels and the
  weights they name, and writes them to its rows of the two results.
-/
module

public import proofs.«01_k».proof.Proof.IdealBody
public import Idealize.ShloMosaic.Lib.SparseCore.Ops
public import Idealize.ShloMosaic.Lib.ViewIndex
public import Idealize.ShloMosaic.Lib.VecWindow
public import Idealize.ShloMosaic.Lib.SparseCore.Stream

@[expose] public section

set_option backward.isDefEq.respectTransparency.types false

noncomputable section

namespace Cert.Proof.OfIdeal

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch sees it -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀

theorem nSub_zero : (K (F := F)).nSub 0 = 16 := rfl
theorem nCore_zero : (K (F := F)).nCore 0 = 2 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

local notation "𝕄" => MT nD τ sig (HIx 1) (Elt F) ℕ UU ℕ

/-! ## The arrays of the call -/

variable (m : (ℓ : Loc nD τ sig) → Buf (Elt F) ℓ)

abbrev xLoc (d : Dev nD) : Loc nD τ sig := (SparseCore.T d).loc main_arg0
abbrev iLoc (d : Dev nD) : Loc nD τ sig := (SparseCore.T d).loc main_arg1
abbrev lLoc (d : Dev nD) : Loc nD τ sig := (SparseCore.T d).loc main_arg2
abbrev pLoc (d : Dev nD) : Loc nD τ sig := (SparseCore.T d).loc main_arg3
abbrev wLoc (d : Dev nD) : Loc nD τ sig := (SparseCore.T d).loc main_v0
abbrev yLoc (d : Dev nD) : Loc nD τ sig := (SparseCore.T d).loc main_v1_0
abbrev bLoc (d : Dev nD) : Loc nD τ sig := (SparseCore.T d).loc main_v1_1

abbrev iM : Memref sig .scVector .hbm S1024 .i32 := Memref.whole main_arg1_scv
abbrev lM : Memref sig .scVector .hbm S100000 .i32 := Memref.whole main_arg2_scv
abbrev wM : Memref sig .scVector .hbm S100000 .f32 := Memref.whole main_v0_scv
abbrev yM : Memref sig .scVector .hbm S1024 .i32 := Memref.whole main_v1_0_scv
abbrev bM : Memref sig .scVector .hbm S1024 .f32 := Memref.whole main_v1_1_scv
abbrev s0M : Memref sig .scVector .vmem S32 .i32 := Memref.whole cc0_scratch0
abbrev s1M : Memref sig .scVector .vmem S32 .i32 := Memref.whole cc0_scratch1
abbrev s2M : Memref sig .scVector .vmem S32 .f32 := Memref.whole cc0_scratch2

theorem div32 : 32 ∣ S1024.size 0 := ⟨32, rfl⟩
/-- Rows `32 r … 32 r + 31`. -/
abbrev rowR (r : Fin 32) : Rect S1024 := Rect.part (s := S1024) (a₀ := 0) div32 r
abbrev rowSet (r : Fin 32) : Finset S1024.Idx := (rowR r).set

theorem rows_disjoint : ∀ i ∈ (Finset.univ : Finset (Fin 32)), ∀ j ∈ (Finset.univ : Finset (Fin 32)), i ≠ j → Disjoint (rowSet i) (rowSet j) :=
  fun i _ j _ h => Rect.part_disjoint div32 h
theorem rows_cover : (Finset.univ : Finset (Fin 32)).biUnion rowSet = Finset.univ := Rect.biUnion_part div32

/-- Entry `n` of a table of a hundred thousand. -/
abbrev tIx (n : ℕ) : S100000.Idx := fun a => ⟨n % S100000.size a, Nat.mod_lt _ (by fin_cases a; decide)⟩
/-- Row `j` of the call's results: what the table holds at index `j`. -/
def picked {e : EltTy} (t : S100000.Idx → Elt F e) (ix : S1024.Idx → Elt F .i32) : S1024.Idx → Elt F e := fun j => t (tIx (BitVec.toNat (ix j)))

variable (wv : (d : Dev nD) → Buf (Elt F) (wLoc d))

abbrev yF (d : Dev nD) : Buf (Elt F) (yLoc d) := picked (F := F) (e := .i32) (m (lLoc d)) (m (iLoc d))
abbrev bF (d : Dev nD) : Buf (Elt F) (bLoc d) := picked (F := F) (e := .f32) (wv d) (m (iLoc d))

abbrev tok (r : Fin 32) : PosShare TreeShare := Transfers.shareTok fullShare 32 r
/-- What tile `r` is handed: a share of the indexes and of the two tables, and its rows of the results at `fy` and `fb`. -/
abbrev tileAt (d : Dev nD) (fy : Buf (Elt F) (yLoc d)) (fb : Buf (Elt F) (bLoc d)) (r : Fin 32) : sProp 𝕄 :=
  iprop((iLoc d ↦{tok r} m (iLoc d)) ∗ (lLoc d ↦{tok r} m (lLoc d)) ∗ (wLoc d ↦{tok r} wv d)
    ∗ (yLoc d ↦[rowSet r]{fullShare} fy) ∗ (bLoc d ↦[rowSet r]{fullShare} fb))

/-- The tile that subcore `i` of core `c` is. -/
def tid (c : Fin 2) (i : Fin 16) : Fin 32 := ⟨2 * i.val + c.val, by omega⟩

/-- What the handshakes carry: each core its sixteen tiles' pieces. -/
def P : (K (F := F)).Pay (nD := nD) (Val := Elt F) (Name := ℕ) (U := UU) where
  st := fun q d c => match q with | 0 => bigSep Finset.univ fun i : Fin 16 => tileAt m wv d (m (yLoc d)) (m (bLoc d)) (tid (Fin.cast nCore_zero c) i)
  dn := fun q d c => match q with | 0 => bigSep Finset.univ fun i : Fin 16 => tileAt m wv d (yF m d) (bF m wv d) (tid (Fin.cast nCore_zero c) i)
  go := fun q d c i => match q with | 0 => tileAt m wv d (m (yLoc d)) (m (bLoc d)) (tid (Fin.cast nCore_zero c) (Fin.cast nSub_zero i))
  td := fun q d c i => match q with | 0 => tileAt m wv d (yF m d) (bF m wv d) (tid (Fin.cast nCore_zero c) (Fin.cast nSub_zero i))
  x := fun _ _ => iprop(emp)

instance P_storable : (P (F := F) m wv).IsStorable where
  st q d c := match q with
    | 0 => (inferInstance : BI.Storable (upEmb : UEmb _ 𝕄) (bigSep Finset.univ fun i : Fin 16 => tileAt m wv d (m (yLoc d)) (m (bLoc d)) (tid (Fin.cast nCore_zero c) i)))
  dn q d c := match q with
    | 0 => (inferInstance : BI.Storable (upEmb : UEmb _ 𝕄) (bigSep Finset.univ fun i : Fin 16 => tileAt m wv d (yF m d) (bF m wv d) (tid (Fin.cast nCore_zero c) i)))
  go q d c i := match q with
    | 0 => (inferInstance : BI.Storable (upEmb : UEmb _ 𝕄) (tileAt m wv d (m (yLoc d)) (m (bLoc d)) (tid (Fin.cast nCore_zero c) (Fin.cast nSub_zero i))))
  td q d c i := match q with
    | 0 => (inferInstance : BI.Storable (upEmb : UEmb _ 𝕄) (tileAt m wv d (yF m d) (bF m wv d) (tid (Fin.cast nCore_zero c) (Fin.cast nSub_zero i))))

/-- Every index names an entry of the tables. -/
def InRange : Prop := ∀ (d : Dev nD) (j : S1024.Idx), BitVec.toNat (m (iLoc d) j) < 100000

/-! ## One tile -/

variable [FloatOps F]

section Tile

variable (d : Dev nD) (L : grid0.Coords)

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
abbrev rL (L : grid0.Coords) : Fin 32 := tid (Fin.cast bound_zero (L 0)) (Fin.cast bound_one (L 1))

abbrev rowK (L : grid0.Coords) : Rect S1024 := Rect.unit (s := S1024) (k0_off1 L) S32.size (k0_off1_inb L)
abbrev iRowK (L : grid0.Coords) : Memref sig .scVector .hbm S32 .i32 := iM.slice (rowK L) (fun _ => rfl)
abbrev yRowK (L : grid0.Coords) : Memref sig .scVector .hbm S32 .i32 := yM.slice (rowK L) (fun _ => rfl)
abbrev bRowK (L : grid0.Coords) : Memref sig .scVector .hbm S32 .f32 := bM.slice (rowK L) (fun _ => rfl)

theorem rowK_eq : rowK L = rowR (rL L) := by
  unfold rowK rowR Rect.part Rect.block
  congr 1 <;> funext a
  · rw [k0_off1_eq]
    match a with
    | 0 => simp [Shape.partIx, Shape.partSize, tid]; omega
  · match a with
    | 0 => simp [Shape.partSize]

theorem set_yRowK : (yRowK L).view.set = rowSet (rL L) := by
  show ((View.whole (main_v1_0_scv : Ref sig .scVector)).slice (rowK L)).set = _
  rw [View.set_slice, rowK_eq]; exact Finset.map_refl
theorem set_bRowK : (bRowK L).view.set = rowSet (rL L) := by
  show ((View.whole (main_v1_1_scv : Ref sig .scVector)).slice (rowK L)).set = _
  rw [View.set_slice, rowK_eq]; exact Finset.map_refl

theorem pts_y (f : Buf (Elt F) (yLoc d)) :
    ((yRowK L).view.loc (V d (cV L) (jV L)) ↦[(yRowK L).view.set]{fullShare} f : sProp 𝕄) = yLoc d ↦[rowSet (rL L)]{fullShare} f := by
  rw [set_yRowK]
theorem pts_b (f : Buf (Elt F) (bLoc d)) :
    ((bRowK L).view.loc (V d (cV L) (jV L)) ↦[(bRowK L).view.set]{fullShare} f : sProp 𝕄) = bLoc d ↦[rowSet (rL L)]{fullShare} f := by
  rw [set_bRowK]
theorem pts_i (q : PosShare TreeShare) (f : Buf (Elt F) (iLoc d)) : (iM.view.loc (V d (cV L) (jV L)) ↦{q} f : sProp 𝕄) = iLoc d ↦{q} f := rfl
theorem pts_l (q : PosShare TreeShare) (f : Buf (Elt F) (lLoc d)) : (lM.view.loc (V d (cV L) (jV L)) ↦{q} f : sProp 𝕄) = lLoc d ↦{q} f := rfl
theorem pts_w (q : PosShare TreeShare) (f : Buf (Elt F) (wLoc d)) : (wM.view.loc (V d (cV L) (jV L)) ↦{q} f : sProp 𝕄) = wLoc d ↦{q} f := rfl

abbrev tAcell (d : Dev nD) (c : Fin τ.nSC) (i : Fin τ.nSub) : GSem nD τ sig := (V d c i, .dma cc0_scratch3.sem)
abbrev tBcell (d : Dev nD) (c : Fin τ.nSC) (i : Fin τ.nSub) : GSem nD τ sig := (V d c i, .dma cc0_scoped0.sem)
abbrev tCcell (d : Dev nD) (c : Fin τ.nSC) (i : Fin τ.nSub) : GSem nD τ sig := (V d c i, .dma cc0_scoped1.sem)
abbrev tDcell (d : Dev nD) (c : Fin τ.nSC) (i : Fin τ.nSub) : GSem nD τ sig := (V d c i, .dma cc0_scoped2.sem)

theorem mem_cell (d : Dev nD) (c : Fin τ.nSC) (i : Fin τ.nSub) (s : SemLoc sig) (h : s.isScoped .scVector = true) : ((V d c i, s) : GSem nD τ sig) ∈ ownCells (V d c i) :=
  mem_ownCells.mpr ⟨rfl, h⟩

theorem ownSems0_V :
    (ownSems0 (V d (cV L) (jV L)) : sProp 𝕄)
      = iprop(semVal (tAcell d (cV L) (jV L)) 0 ∗ semVal (tBcell d (cV L) (jV L)) 0 ∗ semVal (tCcell d (cV L) (jV L)) 0 ∗ semVal (tDcell d (cV L) (jV L)) 0
          ∗ bigSep (((((ownCells (V d (cV L) (jV L))).erase (tAcell d (cV L) (jV L))).erase (tBcell d (cV L) (jV L))).erase (tCcell d (cV L) (jV L))).erase (tDcell d (cV L) (jV L)))
              fun g => semVal g 0) := by
  have hA := mem_cell d (cV L) (jV L) (.dma cc0_scratch3.sem) (by decide)
  have hB := mem_cell d (cV L) (jV L) (.dma cc0_scoped0.sem) (by decide)
  have hC := mem_cell d (cV L) (jV L) (.dma cc0_scoped1.sem) (by decide)
  have hD := mem_cell d (cV L) (jV L) (.dma cc0_scoped2.sem) (by decide)
  have ne {s s' : SemLoc sig} (h : s ≠ s') : ((V d (cV L) (jV L), s) : GSem nD τ sig) ≠ (V d (cV L) (jV L), s') := fun e => h (congrArg Prod.snd e)
  unfold SparseCore.Cfg.ownSems0
  rw [SparseCore.bigSep_erase' hA, SparseCore.bigSep_erase' (Finset.mem_erase.mpr ⟨ne (by decide), hB⟩),
    SparseCore.bigSep_erase' (Finset.mem_erase.mpr ⟨ne (by decide), Finset.mem_erase.mpr ⟨ne (by decide), hC⟩⟩),
    SparseCore.bigSep_erase' (Finset.mem_erase.mpr ⟨ne (by decide), Finset.mem_erase.mpr ⟨ne (by decide), Finset.mem_erase.mpr ⟨ne (by decide), hD⟩⟩⟩)]

theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  have mem (b : Ref sig .scVector) (h : ((Proc.scVector (cV L) (jV L)).devRef b).owner = .proc (.scVector (cV L) (jV L))) :
      (Proc.scVector (cV L) (jV L)).devRef b ∈ ownRefs (τ := τ) (.scVector (cV L) (jV L)) :=
    SparseCore.Cfg.mem_ownRefs_of_owner (p := Proc.scVector (cV L) (jV L)) h
  have ne {b b' : Ref sig .scVector} (h : b ≠ b') : (Proc.scVector (cV L) (jV L)).devRef b ≠ (Proc.scVector (cV L) (jV L)).devRef b' :=
    fun e => h (Proc.devRef_injective _ e)
  unfold SparseCore.Cfg.ownBufs
  refine (SparseCore.bigSep_erase' (mem cc0_scratch0 rfl)).trans ?_
  rw [SparseCore.bigSep_erase' (Finset.mem_erase.mpr ⟨ne (by decide), mem cc0_scratch1 rfl⟩),
    SparseCore.bigSep_erase' (Finset.mem_erase.mpr ⟨ne (by decide), Finset.mem_erase.mpr ⟨ne (by decide), mem cc0_scratch2 rfl⟩⟩)]

/-- The indexes a tile fetched are in range. -/
theorem inb (hr : InRange m) (fs : Buf (Elt F) ((V d (cV L) (jV L)).loc cc0_scratch0)) (pay : S32.Idx → Elt F .i32)
    (hpay : pay = (iRowK L).view.read (Elt F) (m (iLoc d))) :
    ∀ x, BitVec.toNat (s0M.view.read (Elt F) (View.write (Elt F) s0M.view fs pay Finset.univ) x) < S100000.size gathers_S100000_S32.axis := by
  subst hpay; intro x
  rw [View.write_whole_univ]
  simp only [Memref.view_whole, View.read_whole]
  rw [show ∀ j, (iRowK L).view.read (Elt F) (m (iLoc d)) j = m (iLoc d) ((iRowK L).view.emb j) from fun j => (View.read_apply _ _).trans (cast_eq _ _)]
  exact hr d _

/-- A gather of thirty-two entries: entry `x` is the table's at index `x` of the list. -/
theorem gathered {e : EltTy} (t : S100000.Idx → Elt F e) (o : S32.Idx → Elt F .i32)
    (hin : ∀ x, BitVec.toNat (o x) < S100000.size gathers_S100000_S32.axis) (hn : S32.numel = S32.size gathers_S100000_S32.axis') (x : S32.Idx) :
    SparseCore.gatherPayload gathers_S100000_S32 t (SparseCore.rows o hn hin) x = t (tIx (BitVec.toNat (o x))) := by
  have hx : S32.rowMajor.symm ((x gathers_S100000_S32.axis').cast hn.symm) = x := by
    rw [Equiv.symm_apply_eq]; apply Fin.ext
    rw [show (S32.rowMajor x).val = (x 0).val from Shape.rowMajor_val_one x]; rfl
  have hlt : BitVec.toNat (o x) < 100000 := hin x
  unfold SparseCore.gatherPayload
  congr 1
  funext b
  obtain rfl : b = gathers_S100000_S32.axis := Subsingleton.elim (α := Fin 1) _ _
  rw [Shape.Gathers.idx_axis]
  apply Fin.ext
  show BitVec.toNat (o (S32.rowMajor.symm ((x gathers_S100000_S32.axis').cast hn.symm))) = BitVec.toNat (o x) % 100000
  rw [hx, Nat.mod_eq_of_lt hlt]

/-- What a tile writes to its rows, the payload known at each of them. -/
theorem row_y (f g : Buf (Elt F) (yLoc d)) (p : S32.Idx → Elt F .i32) (hp : ∀ x, p x = g ((rowK L).emb x)) :
    ∀ i ∈ (yRowK L).view.set, (yRowK L).view.writes (Elt F) f [⟨Rect.whole S32, p⟩] i = g i := by
  intro i hi
  obtain ⟨x, -, rfl⟩ := Finset.mem_map.mp hi
  exact View.eq_of_read_eq (Val := Elt F) (v := (yRowK L).view) (f := (yRowK L).view.writes (Elt F) f [⟨Rect.whole S32, p⟩]) (g := g)
    ((congrFun (View.read_writes_whole (Val := Elt F) (yRowK L).view f p) x).trans ((hp x).trans rfl))
theorem row_b (f g : Buf (Elt F) (bLoc d)) (p : S32.Idx → Elt F .f32) (hp : ∀ x, p x = g ((rowK L).emb x)) :
    ∀ i ∈ (bRowK L).view.set, (bRowK L).view.writes (Elt F) f [⟨Rect.whole S32, p⟩] i = g i := by
  intro i hi
  obtain ⟨x, -, rfl⟩ := Finset.mem_map.mp hi
  exact View.eq_of_read_eq (Val := Elt F) (v := (bRowK L).view) (f := (bRowK L).view.writes (Elt F) f [⟨Rect.whole S32, p⟩]) (g := g)
    ((congrFun (View.read_writes_whole (Val := Elt F) (bRowK L).view f p) x).trans ((hp x).trans rfl))

/-- A table read through the slice that is all of it. -/
theorem emb_all (x : S100000.Idx) : (Rect.unit (s := S100000) ![0] S100000.size inb_S100000_S100000_0).emb x = x := by
  exact Rect.emb_unit_full (s := S100000) (off := ![0]) inb_S100000_S100000_0 x
theorem read_l (t : S100000.Idx → Elt F .i32) :
    (lM.slice (Rect.unit (s := S100000) ![0] S100000.size inb_S100000_S100000_0) (fun _ => rfl)).view.read (Elt F) t = t := by
  funext x
  exact (View.read_apply _ _).trans ((cast_eq _ _).trans (congrArg t (emb_all x)))
theorem read_w (t : S100000.Idx → Elt F .f32) :
    (wM.slice (Rect.unit (s := S100000) ![0] S100000.size inb_S100000_S100000_0) (fun _ => rfl)).view.read (Elt F) t = t := by
  funext x
  exact (View.read_apply _ _).trans ((cast_eq _ _).trans (congrArg t (emb_all x)))

/-- The index list a tile holds after its fetch. -/
theorem fetched (fs : Buf (Elt F) ((V d (cV L) (jV L)).loc cc0_scratch0)) (pay : S32.Idx → Elt F .i32)
    (hpay : pay = (iRowK L).view.read (Elt F) (m (iLoc d))) (x : S32.Idx) :
    s0M.view.read (Elt F) (View.write (Elt F) s0M.view fs pay Finset.univ) x = m (iLoc d) ((rowK L).emb x) := by
  subst hpay
  rw [View.write_whole_univ]
  simp only [Memref.view_whole, View.read_whole]
  exact (View.read_apply _ _).trans (cast_eq _ _)

set_option maxHeartbeats 4000000 in
theorem tile_body (hr : InRange m) (O : CellTallies nD τ sig (HIx 1)) (W : Waits sig (HIx 1)) (hO : ∀ g, O g none = 0) :
    iprop(levAts (K (F := F)).L (K (F := F)).lev ∗ emp ∗ tileAt m wv d (m (yLoc d)) (m (bLoc d)) (rL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_sc_gather L iM (Memref.isWhole_whole _) lM (Memref.isWhole_whole _) wM (Memref.isWhole_whole _) yM (Memref.isWhole_whole _) bM (Memref.isWhole_whole _)
            s0M (Memref.isWhole_whole _) s1M (Memref.isWhole_whole _) s2M (Memref.isWhole_whole _) cc0_scratch3 cc0_scoped0 cc0_scoped1 cc0_scoped2)
          fun _ => iprop(tileAt m wv d (yF m d) (bF m wv d) (rL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_sc_gather_eq_skeleton]; unfold cc0_sc_gather_skel
  rw [(K (F := F)).scopedBufs_V facts d (cV L) (jV L), SparseCore.Cfg.scopedSems0_V (Val := Elt F) d (cV L) (jV L), ownSems0_V, ownBufs_V]
  iintro ⟨#Hlv, -, ⟨Hi, Hl, Hw, Hy, Hb⟩, ⟨⟨%f0, H0⟩, ⟨%f1, H1⟩, ⟨%f2, H2⟩, Hbufs⟩, ⟨HsA, HsB, HsC, HsD, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hy' := (entails_of_eq (pts_y (F := F) d L _).symm) $$ Hy
  ihave Hb' := (entails_of_eq (pts_b (F := F) d L _).symm) $$ Hb
  ihave Hi' := (entails_of_eq (pts_i (F := F) d L _ _).symm) $$ Hi
  ihave Hl' := (entails_of_eq (pts_l (F := F) d L _ _).symm) $$ Hl
  ihave Hw' := (entails_of_eq (pts_w (F := F) d L _ _).symm) $$ Hw
  ihave H0' := (show ((V d (cV L) (jV L)).loc cc0_scratch0 ↦{fullShare} f0) ⊢ (s0M.view.loc (V d (cV L) (jV L)) ↦{fullShare} f0 : sProp 𝕄) from .rfl) $$ H0
  ihave H1' := (show ((V d (cV L) (jV L)).loc cc0_scratch1 ↦{fullShare} f1) ⊢ (s1M.view.loc (V d (cV L) (jV L)) ↦{fullShare} f1 : sProp 𝕄) from .rfl) $$ H1
  ihave H2' := (show ((V d (cV L) (jV L)).loc cc0_scratch2 ↦{fullShare} f2) ⊢ (s2M.view.loc (V d (cV L) (jV L)) ↦{fullShare} f2 : sProp 𝕄) from .rfl) $$ H2
  sl_exec
  have hin := inb m d L hr f0 (tile_body.sl.dma0 m d L) rfl
  sl_exec
  have hy : ∀ i ∈ (yRowK L).view.set, (yRowK L).view.writes (Elt F) (m (yLoc d)) [⟨Rect.whole S32, tile_body.sl.dma0_1 m d L f0 f1 hin⟩] i = yF m d i := by
    refine row_y d L _ _ _ fun x => ?_
    refine (congrFun (View.read_writes_whole (Val := Elt F) s1M.view f1 (tile_body.sl.gather0 m d L f0 hin)) x).trans ?_
    refine (gathered (F := F) (e := .i32) ((lM.slice (Rect.unit (s := S100000) ![0] S100000.size inb_S100000_S100000_0) (fun _ => rfl)).view.read (Elt F) (m (lLoc d))) _ hin rfl x).trans ?_
    rw [show BitVec.toNat _ = _ from congrArg BitVec.toNat (fetched m d L f0 (tile_body.sl.dma0 m d L) rfl x)]
    exact congrFun (read_l (F := F) (m (lLoc d))) _
  have hb : ∀ i ∈ (bRowK L).view.set, (bRowK L).view.writes (Elt F) (m (bLoc d)) [⟨Rect.whole S32, tile_body.sl.dma0_2 m wv d L f0 f2 hin⟩] i = bF m wv d i := by
    refine row_b d L _ _ _ fun x => ?_
    refine (congrFun (View.read_writes_whole (Val := Elt F) s2M.view f2 (tile_body.sl.gather1 m wv d L f0 hin)) x).trans ?_
    refine (gathered (F := F) (e := .f32) ((wM.slice (Rect.unit (s := S100000) ![0] S100000.size inb_S100000_S100000_0) (fun _ => rfl)).view.read (Elt F) (wv d)) _ hin rfl x).trans ?_
    rw [show BitVec.toNat _ = _ from congrArg BitVec.toNat (fetched m d L f0 (tile_body.sl.dma0 m d L) rfl x)]
    exact congrFun (read_w (F := F) (wv d)) _
  ihave Hy2 := (entails_of_eq ((pointsTo_congr hy).trans (pts_y (F := F) d L (yF m d)))) $$ Hy'
  ihave Hb2 := (entails_of_eq ((pointsTo_congr hb).trans (pts_b (F := F) d L (bF m wv d)))) $$ Hb'
  sl_step
  isplitl [Hi' Hl' Hw' Hy2 Hb2]
  · isplitl [Hi']; · iexact Hi'
    isplitl [Hl']; · iexact Hl'
    isplitl [Hw']; · iexact Hw'
    isplitl [Hy2]; · iexact Hy2
    iexact Hb2
  isplitl [H0' H1' H2' Hbufs]
  · isplitl [H0']; · iexists _; iexact H0'
    isplitl [H1']; · iexists _; iexact H1'
    isplitl [H2']; · iexists _; iexact H2'
    iexact Hbufs
  isplitl [HsA HsB HsC HsD Hsems]
  · isplitl [HsA]; · iexact HsA
    isplitl [HsB]; · iexact HsB
    isplitl [HsC]; · iexact HsC
    isplitl [HsD]; · iexact HsD
    iexact Hsems
  iexists _; isplitr
  swap; · iexact HO
  ipureintro; intro p hp
  simp only [Finset.mem_insert] at hp
  rcases hp with rfl | rfl | rfl | rfl | rfl | hp
  · exact .inr rfl
  · exact .inr rfl
  · exact .inr rfl
  · exact .inr rfl
  · exact .inr rfl
  exact .inl hp

end Tile

end Cert.Proof.OfIdeal

end

end
-- ==== Proof.IdealCall.lean ====
/-
  The SparseCore call as the launch sees it: each tile's obligation, and how the call's arrays are dealt to the
  thirty-two tiles and come back.
-/
module

public import proofs.«01_k».proof.Proof.IdealTile

@[expose] public section

set_option backward.isDefEq.respectTransparency.types false

noncomputable section

namespace Cert.Proof.OfIdeal

open Cert.KernelIdeal Cert.KernelIdeal.Gen
open Idealize.ShloMosaic
open Idealize.ShloMosaic.SparseCore (S V T)
open Idealize.ShloMosaic.SparseCore.Cfg (HIx Pay)
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (wv : (d : Dev nD) → Buf (Elt F) (wLoc d))

/-! ## A tile's obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_sc_gather (coordsV c s)
          iM (Memref.isWhole_whole _) lM (Memref.isWhole_whole _) wM (Memref.isWhole_whole _) yM (Memref.isWhole_whole _) bM (Memref.isWhole_whole _)
          s0M (Memref.isWhole_whole _) s1M (Memref.isWhole_whole _) s2M (Memref.isWhole_whole _) cc0_scratch3 cc0_scoped0 cc0_scoped1 cc0_scoped2) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  iexact HO

set_option maxRecDepth 16384 in
theorem tileObl (hr : InRange m) : (K (F := F)).TileObl (D (F := F)) 𝒱 (P m wv) v₀ 0 := by
  intro d c i O W hO _ _
  simp only [show (P m wv).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m wv d (coordsV ⟨_, hci.1⟩ ⟨_, hci.2⟩) hr O W hO).trans (wp_mono frame _ _ fun _ => obl_post)

/-! ## Dealing the arrays -/

omit [FloatOps F] in
theorem bigSep_subs (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m wv) 0 := by
  intro d c
  show (bigSep Finset.univ fun i : Fin 16 => tileAt m wv d (m (yLoc d)) (m (bLoc d)) (tid (Fin.cast nCore_zero c) i)) ⊢ |={Set.univ}=> iprop(
      (bigSep Finset.univ fun i : Fin ((K (F := F)).nSub 0) => tileAt m wv d (m (yLoc d)) (m (bLoc d)) (tid (Fin.cast nCore_zero c) (Fin.cast nSub_zero i)))
      ∗ ((bigSep Finset.univ fun i : Fin ((K (F := F)).nSub 0) => tileAt m wv d (yF m d) (bF m wv d) (tid (Fin.cast nCore_zero c) (Fin.cast nSub_zero i)))
          -∗ bigSep Finset.univ fun i : Fin 16 => tileAt m wv d (yF m d) (bF m wv d) (tid (Fin.cast nCore_zero c) i)))
  rw [bigSep_subs (F := F) (fun i => tileAt m wv d (m (yLoc d)) (m (bLoc d)) (tid (Fin.cast nCore_zero c) i)),
    bigSep_subs (F := F) (fun i => tileAt m wv d (yF m d) (bF m wv d) (tid (Fin.cast nCore_zero c) i))]
  iintro H; imodintro
  isplitl [H]; · iexact H
  iintro H; iexact H

/-- Tiles by core and subcore. -/
def tileEquiv : Fin 2 × Fin 16 ≃ Fin 32 where
  toFun p := tid p.1 p.2
  invFun r := (⟨r.val % 2, Nat.mod_lt _ (by decide)⟩, ⟨r.val / 2, by omega⟩)
  left_inv := by decide
  right_inv := by decide

omit [FloatOps F] in
theorem bigSep_tiles (Φ : Fin 32 → sProp 𝕄) :
    (bigSep Finset.univ fun c : Fin ((K (F := F)).nCore 0) => bigSep Finset.univ fun i : Fin 16 => Φ (tid (Fin.cast nCore_zero c) i)) = bigSep Finset.univ Φ := by
  rw [bigSep_univ_equiv tileEquiv Φ, bigSep_univ_prod]
  exact bigSep_congr fun _ _ => rfl

/-- What stays behind of the arrays only read, while the tiles hold their shares. -/
abbrev callRest (d : Dev nD) : sProp 𝕄 :=
  iprop((iLoc d ↦{Transfers.shareDrop fullShare 32} m (iLoc d)) ∗ (lLoc d ↦{Transfers.shareDrop fullShare 32} m (lLoc d)) ∗ (wLoc d ↦{Transfers.shareDrop fullShare 32} wv d))

/-- The call's five arrays, whole. -/
abbrev callArrs (d : Dev nD) (fy : Buf (Elt F) (yLoc d)) (fb : Buf (Elt F) (bLoc d)) : sProp 𝕄 :=
  iprop((iLoc d ↦{fullShare} m (iLoc d)) ∗ (lLoc d ↦{fullShare} m (lLoc d)) ∗ (wLoc d ↦{fullShare} wv d) ∗ (yLoc d ↦{fullShare} fy) ∗ (bLoc d ↦{fullShare} fb))

omit [FloatOps F] in
theorem rows_y (d : Dev nD) (f : Buf (Elt F) (yLoc d)) :
    (yLoc d ↦{fullShare} f : sProp 𝕄) = bigSep Finset.univ fun r : Fin 32 => yLoc d ↦[rowSet r]{fullShare} f := by
  rw [← pointsTo_biUnion Finset.univ (ℓ := yLoc d) rowSet rows_disjoint, rows_cover]; try rfl
omit [FloatOps F] in
theorem rows_b (d : Dev nD) (f : Buf (Elt F) (bLoc d)) :
    (bLoc d ↦{fullShare} f : sProp 𝕄) = bigSep Finset.univ fun r : Fin 32 => bLoc d ↦[rowSet r]{fullShare} f := by
  rw [← pointsTo_biUnion Finset.univ (ℓ := bLoc d) rowSet rows_disjoint, rows_cover]; try rfl

omit [FloatOps F] in
theorem deal_tiles (d : Dev nD) (fy : Buf (Elt F) (yLoc d)) (fb : Buf (Elt F) (bLoc d)) :
    callArrs m wv d fy fb ⊢ iprop(callRest m wv d ∗ bigSep Finset.univ fun r : Fin 32 => tileAt m wv d fy fb r) := by
  unfold callArrs callRest tileAt
  rw [bigSep_sep', bigSep_sep', bigSep_sep', bigSep_sep', rows_y, rows_b]
  iintro ⟨Hi, Hl, Hw, Hy, Hb⟩
  ihave Hi' := (Transfers.pointsTo_toks_split (fullShare : PosShare TreeShare) 32) $$ Hi
  ihave Hl' := (Transfers.pointsTo_toks_split (fullShare : PosShare TreeShare) 32) $$ Hl
  ihave Hw' := (Transfers.pointsTo_toks_split (fullShare : PosShare TreeShare) 32) $$ Hw
  icases Hi' with ⟨Hi0, Hi⟩; icases Hl' with ⟨Hl0, Hl⟩; icases Hw' with ⟨Hw0, Hw⟩
  isplitl [Hi0 Hl0 Hw0]
  · isplitl [Hi0]; · iexact Hi0
    isplitl [Hl0]; · iexact Hl0
    iexact Hw0
  isplitl [Hi]; · iexact Hi
  isplitl [Hl]; · iexact Hl
  isplitl [Hw]; · iexact Hw
  isplitl [Hy]; · iexact Hy
  iexact Hb

omit [FloatOps F] in
theorem collect_tiles (d : Dev nD) (fy : Buf (Elt F) (yLoc d)) (fb : Buf (Elt F) (bLoc d)) :
    iprop(callRest m wv d ∗ bigSep Finset.univ fun r : Fin 32 => tileAt m wv d fy fb r) ⊢ callArrs m wv d fy fb := by
  unfold callArrs callRest tileAt
  rw [bigSep_sep', bigSep_sep', bigSep_sep', bigSep_sep', rows_y, rows_b]
  iintro ⟨⟨Hi0, Hl0, Hw0⟩, Hi, Hl, Hw, Hy, Hb⟩
  isplitl [Hi0 Hi]
  · iapply (Transfers.pointsTo_toks_join (fullShare : PosShare TreeShare) 32); isplitl [Hi0]; · iexact Hi0
    iexact Hi
  isplitl [Hl0 Hl]
  · iapply (Transfers.pointsTo_toks_join (fullShare : PosShare TreeShare) 32); isplitl [Hl0]; · iexact Hl0
    iexact Hl
  isplitl [Hw0 Hw]
  · iapply (Transfers.pointsTo_toks_join (fullShare : PosShare TreeShare) 32); isplitl [Hw0]; · iexact Hw0
    iexact Hw
  isplitl [Hy]; · iexact Hy
  iexact Hb

theorem call_in (d : Dev nD) :
    callArrs m wv d (m (yLoc d)) (m (bLoc d)) ⊢ iprop(callRest m wv d ∗ bigSep Finset.univ fun c : Fin ((K (F := F)).nCore 0) => (P m wv).st 0 d c) := by
  rw [show (bigSep Finset.univ fun c : Fin ((K (F := F)).nCore 0) => (P m wv).st 0 d c) = _ from bigSep_tiles (F := F) (fun r => tileAt m wv d (m (yLoc d)) (m (bLoc d)) r)]
  exact deal_tiles m wv d _ _
theorem call_out (d : Dev nD) :
    iprop(callRest m wv d ∗ bigSep Finset.univ fun c : Fin ((K (F := F)).nCore 0) => (P m wv).dn 0 d c) ⊢ callArrs m wv d (yF m d) (bF m wv d) := by
  rw [show (bigSep Finset.univ fun c : Fin ((K (F := F)).nCore 0) => (P m wv).dn 0 d c) = _ from bigSep_tiles (F := F) (fun r => tileAt m wv d (yF m d) (bF m wv d) r)]
  exact collect_tiles m wv d _ _

end Cert.Proof.OfIdeal

end

end
-- ==== Proof.IdealRegion.lean ====
/-
  The TensorCore kernel as one region of the program: the score array cut into its sixty-four row blocks and the ring
  buffer into its four slots, the body's run between the region's ends, and the region's entry and exit.
-/
module

public import proofs.«01_k».proof.Proof.IdealCall
public import Idealize.ShloMosaic.Lib.Pipeline.Regions
public import Idealize.ShloMosaic.Lib.Pipeline.ValueKit

@[expose] public section

set_option backward.isDefEq.respectTransparency.types false

noncomputable section

namespace Cert.Proof.OfIdeal

open Cert.KernelIdeal Cert.KernelIdeal.Gen
open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The score array by row blocks -/

theorem div64 : 64 ∣ S1024x100000.size 0 := ⟨16, rfl⟩
def blkNo : Fin 4 × Fin 16 ≃ Fin 64 where
  toFun p := ⟨4 * p.2.val + p.1.val, by omega⟩
  invFun r := (⟨r.val % 4, Nat.mod_lt _ (by decide)⟩, ⟨r.val / 4, by omega⟩)
  left_inv := by decide
  right_inv := by decide

theorem set_blk (s : Fin 4) (t : Fin 16) : (blk s t).view.set = (Rect.part (s := S1024x100000) (a₀ := 0) div64 (blkNo (s, t))).set := by
  have h : Rect.unit (s := S1024x100000) (blkOff s t) S16x100000.size (blkOff_inb s t) = Rect.part (s := S1024x100000) (a₀ := 0) div64 (blkNo (s, t)) := by
    unfold Rect.part Rect.block
    congr 1 <;> funext a
    · match a with
      | 0 => simp [Shape.partIx, Shape.partSize, blkNo]; omega
      | 1 => simp [Shape.partIx, Shape.partSize]
    · match a with
      | 0 => simp [Shape.partSize]
      | 1 => simp [Shape.partSize]
  show ((View.whole (main_arg0 : Ref sig .tc)).slice (Rect.unit (s := S1024x100000) (blkOff s t) S16x100000.size (blkOff_inb s t))).set = _
  rw [View.set_slice, h]; exact Finset.map_refl

variable (c : Dev nD) (X : Buf (Elt F) (aM.view.loc (c : Thread nD τ)))

omit [FloatOps F] in
theorem score_blocks : (aM.view.loc (c : Thread nD τ) ↦{fullShare} X : sProp 𝕄) = bigSep Finset.univ fun s : Fin 4 => bigSep Finset.univ (homeP c X s) := by
  rw [Ring.pointsTo_blocks (fun p : Fin 4 × Fin 16 => (Rect.part (s := S1024x100000) (a₀ := 0) div64 (blkNo p)).set)
    (fun p p' h => Rect.part_disjoint div64 fun e => h (blkNo.injective e))
    (by
      rw [← Rect.biUnion_part div64, ← Finset.univ_map_equiv_to_embedding blkNo, Finset.map_eq_image, Finset.image_biUnion]
      rfl) X, bigSep_univ_prod]
  refine bigSep_congr fun s _ => bigSep_congr fun t _ => ?_
  unfold homeP; rw [set_blk]; rfl

omit [FloatOps F] in
theorem home_first (s : Fin 4) : (bigSep Finset.univ (homeP c X s) : sProp 𝕄) = iprop(homeP c X s 0 ∗ homesP c X s 0) := by
  unfold homesP
  rw [show (Ring.homeSet 1 0 : Finset (Fin 16)) = Finset.univ.erase 0 by decide]
  exact SparseCore.bigSep_erase' (Finset.mem_univ _)

/-! ## The ring buffer by slots -/

theorem div4 : 4 ∣ S4x16x100000.size 0 := ⟨1, rfl⟩
theorem set_rslot (s : Fin 4) : (rslot s).view.set = (Rect.part (s := S4x16x100000) (a₀ := 0) div4 s).set := by
  have h : Rect.unit (s := S4x16x100000) (slotOff s) S1x16x100000.size (slotOff_inb s) = Rect.part (s := S4x16x100000) (a₀ := 0) div4 s := by
    unfold Rect.part Rect.block
    congr 1 <;> funext a
    · match a with
      | 0 => simp [Shape.partIx, Shape.partSize]
      | 1 => simp [Shape.partIx, Shape.partSize]
      | 2 => simp [Shape.partIx, Shape.partSize]
    · match a with
      | 0 => simp [Shape.partSize]
      | 1 => simp [Shape.partSize]
      | 2 => simp [Shape.partSize]
  show (((View.whole (cc1_scratch0 : Ref sig .tc)).slice (Rect.unit (s := S4x16x100000) (slotOff s) S1x16x100000.size (slotOff_inb s))).reshape S16x100000 _).set = _
  refine (View.set_reshape _ _).trans ((View.set_slice _ _).trans ?_)
  rw [← h]; exact Finset.map_refl

/-- Slot `s`'s elements of the ring buffer. -/
abbrev slotSet (s : Fin 4) : Finset S4x16x100000.Idx := (Rect.part (s := S4x16x100000) (a₀ := 0) div4 s).set
theorem slots_disjoint (s s' : Fin 4) (h : s ≠ s') : Disjoint (slotSet s) (slotSet s') := Rect.part_disjoint div4 h
theorem slots_cover : (Finset.univ : Finset (Fin 4)).biUnion slotSet = Finset.univ := Rect.biUnion_part div4
omit [FloatOps F] in
theorem slotP_eq (s : Fin 4) (f : Buf (Elt F) ((c : Thread nD τ).loc cc1_scratch0)) : (slotP c s f : sProp 𝕄) = ((c : Thread nD τ).loc cc1_scratch0 ↦[slotSet s]{fullShare} f) := by
  unfold slotP; rw [set_rslot]; rfl

omit [FloatOps F] in
theorem ring_split (f : Buf (Elt F) ((c : Thread nD τ).loc cc1_scratch0)) :
    ((c : Thread nD τ).loc cc1_scratch0 ↦{fullShare} f : sProp 𝕄) ⊢ bigSep Finset.univ fun s : Fin 4 => iprop(∃ f, slotP c s f) := by
  rw [Ring.pointsTo_blocks (ℓ := (c : Thread nD τ).loc cc1_scratch0) slotSet slots_disjoint slots_cover f]
  refine bigSep_mono fun s _ => (Entails.of_eq (slotP_eq c s f).symm).trans ?_
  show (slotP c s f) ⊢ iprop(∃ f, slotP c s f)
  iintro H; iexists f; iexact H
omit [FloatOps F] in
theorem ring_join [∀ e, Nonempty (Elt F e)] :
    (bigSep Finset.univ fun s : Fin 4 => iprop(∃ f, slotP c s f)) ⊢ (iprop(∃ f, (c : Thread nD τ).loc cc1_scratch0 ↦{fullShare} f) : sProp 𝕄) := by
  refine BI.Entails.trans (Entails.of_eq (bigSep_congr fun s _ => ?_))
    (Ring.pointsTo_blocks_join_exists (ℓ := (c : Thread nD τ).loc cc1_scratch0) slotSet slots_disjoint slots_cover (fun _ => Classical.arbitrary _))
  exact congrArg _ (funext fun f => slotP_eq c s f)

omit [FloatOps F] in
theorem four (Φ : Fin 4 → sProp 𝕄) : bigSep Finset.univ Φ = iprop(Φ 0 ∗ Φ 1 ∗ Φ 2 ∗ Φ 3) :=
  bigSep_univ_eq_bigSepL [(0 : Fin 4), 1, 2, 3] (by decide) (by decide) Φ

/-! ## The region's data -/

variable (V : (d : Dev nD) → (b : Ref sig .tc) → Buf (Elt F) ((d : Thread nD τ).loc b))

/-- The word the body stores. -/
abbrev outW : F .f32 := outVal c (V c main_arg0) (stage1_0 0) (stage1_1 0) (stage1_2 0) (stage1_3 0) (V c main_v2) (V c main_v3) (V c main_v4) (V c main_v5)

/-- The invariant at the region's ends: the score array whole, the four semaphores at zero, the scratch at something. -/
def Φc : sProp 𝕄 :=
  iprop((aM.view.loc (c : Thread nD τ) ↦{fullShare} V c main_arg0) ∗ (cellP c 0 ∗ cellP c 1 ∗ cellP c 2 ∗ cellP c 3)
    ∗ Pipeline.scopedRest (Ix := HIx 1) (Name := ℕ) (U := UU) (Lvl := ℕ) (Val := Elt F) spec1 c)

/-- The recorded waits lie below the call's last stage. -/
def recd : Set (SemLoc sig × HIx 1) := {p | (K (F := F)).lev ((c : Thread nD τ), p.1) p.2 ≤ 8}
theorem recd_none (l : SemLoc sig) : (l, (none : HIx 1)) ∈ recd (F := F) c := Nat.zero_le _

def dats (_ : Fin 1) (c : Dev nD) : Dat τ (Elt F) (HIx 1) ℕ UU ℕ cfg1 c where
  A w := V c (Pipeline.arrRef spec1 w)
  after w _ := match w with
    | ⟨0, _⟩ => V c main_v2 | ⟨1, _⟩ => V c main_v3 | ⟨2, _⟩ => V c main_v4 | ⟨3, _⟩ => V c main_v5
    | ⟨4, _⟩ => fun _ => outW c V
    | ⟨_ + 5, h⟩ => absurd h (Nat.not_lt.2 (Nat.le_add_left _ _))
  Φ _ := Φc c V
  q _ := fullShare
  owed _ := 0
  recorded _ := recd (F := F) c

theorem before_0 (d : (cfg1.win 0).block.Idx → Elt F (cfg1.win 0).elt) : (dats V 0 c).before 0 t1_0 d = V c main_v2 := by
  unfold Dat.before; rw [if_pos (fetch1_0 t1_0)]
  funext y
  refine (View.read_apply (Val := Elt F) (v := ((cfg1.win 0).blk t1_0).view) _ _).trans ((cast_eq _ _).trans ?_)
  exact congrArg (V c main_v2) (funext fun a => Fin.ext (by
    show 0 * _ + 1 * (y a).val = (y a).val
    omega))
theorem before_1 (d : (cfg1.win 1).block.Idx → Elt F (cfg1.win 1).elt) : (dats V 0 c).before 1 t1_0 d = V c main_v3 := by
  unfold Dat.before; rw [if_pos (fetch1_1 t1_0)]
  funext y
  refine (View.read_apply (Val := Elt F) (v := ((cfg1.win 1).blk t1_0).view) _ _).trans ((cast_eq _ _).trans ?_)
  exact congrArg (V c main_v3) (funext fun a => Fin.ext (by
    show 0 * _ + 1 * (y a).val = (y a).val
    omega))
theorem before_2 (d : (cfg1.win 2).block.Idx → Elt F (cfg1.win 2).elt) : (dats V 0 c).before 2 t1_0 d = V c main_v4 := by
  unfold Dat.before; rw [if_pos (fetch1_2 t1_0)]
  funext y
  refine (View.read_apply (Val := Elt F) (v := ((cfg1.win 2).blk t1_0).view) _ _).trans ((cast_eq _ _).trans ?_)
  exact congrArg (V c main_v4) (funext fun a => Fin.ext (by
    show 0 * _ + 1 * (y a).val = (y a).val
    omega))
theorem before_3 (d : (cfg1.win 3).block.Idx → Elt F (cfg1.win 3).elt) : (dats V 0 c).before 3 t1_0 d = V c main_v5 := by
  unfold Dat.before; rw [if_pos (fetch1_3 t1_0)]
  funext y
  refine (View.read_apply (Val := Elt F) (v := ((cfg1.win 3).blk t1_0).view) _ _).trans ((cast_eq _ _).trans ?_)
  exact congrArg (V c main_v5) (funext fun a => Fin.ext (by
    show 0 * _ + 1 * (y a).val = (y a).val
    omega))

omit [FloatOps F] in
/-- Owning a buffer through the view of the whole buffer is owning the buffer. -/
theorem owns_view_whole (b : Ref sig .tc) (f : Buf (Elt F) ((c : Thread nD τ).loc b)) :
    ((Memref.whole b).view.loc (c : Thread nD τ) ↦[(Memref.whole b).view.set]{fullShare} f : sProp 𝕄) = ((c : Thread nD τ).loc b ↦{fullShare} f) := by
  rw [show (Memref.whole b).view.set = Finset.univ from View.set_whole b]

set_option maxRecDepth 8192 in
set_option maxHeartbeats 2000000 in
theorem body_obligation [∀ e, Nonempty (Elt F e)] : BodyObligation (dats V 0 c) (defs₀ (F := F)) 𝒱₀ none Set.univ := fun t => by
  obtain rfl := fin_N1 t
  rw [bigSep_W1, bigSep_W1]
  simp only [owns_whole_eq]
  rw [show (dats V 0 c).Φ t1_0.castSucc = Φc c V from rfl, show (dats V 0 c).Φ t1_0.succ = Φc c V from rfl]
  unfold Φc Dat.owesAt Pipeline.owesWithin; rw [scopedRest1_eq]
  rw [show (dats V 0 c).owed t1_0.castSucc = 0 from rfl, show (dats V 0 c).owed t1_0.succ = 0 from rfl]
  iintro ⟨⟨HX, ⟨Hc0, Hc1, Hc2, Hc3⟩, ⟨%fs, Hs⟩⟩, ⟨%W, %hW, HO⟩, ⟨%d0, %f0, %hf0, H0⟩, ⟨%d1, %f1, %hf1, H1⟩, ⟨%d2, %f2, %hf2, H2⟩, ⟨%d3, %f3, %hf3, H3⟩, ⟨%d4, %f4, %hf4, H4⟩⟩
  rw [before_0] at hf0; rw [before_1] at hf1; rw [before_2] at hf2; rw [before_3] at hf3
  subst hf0; subst hf1; subst hf2; subst hf3
  ihave HX' := (Entails.of_eq ((score_blocks c (V c main_arg0)).trans (four _))) $$ HX
  icases HX' with ⟨X0, X1, X2, X3⟩
  ihave X0' := (Entails.of_eq (home_first c (V c main_arg0) 0)) $$ X0
  ihave X1' := (Entails.of_eq (home_first c (V c main_arg0) 1)) $$ X1
  ihave X2' := (Entails.of_eq (home_first c (V c main_arg0) 2)) $$ X2
  ihave X3' := (Entails.of_eq (home_first c (V c main_arg0) 3)) $$ X3
  icases X0' with ⟨h0, r0⟩; icases X1' with ⟨h1, r1⟩; icases X2' with ⟨h2, r2⟩; icases X3' with ⟨h3, r3⟩
  ihave Hs' := ((ring_split c fs).trans (Entails.of_eq (four _))) $$ Hs
  icases Hs' with ⟨S0, S1, S2, S3⟩
  iapply (bodyRun c (V c main_arg0) (stage1_0 0) (hstage1_0 0) (stage1_1 0) (hstage1_1 0) (stage1_2 0) (hstage1_2 0) (stage1_3 0) (hstage1_3 0)
    (stage1_4 0) (hstage1_4 0) (V c main_v2) (V c main_v3) (V c main_v4) (V c main_v5) f4 ((dats V 0 c).bound none t1_0.castSucc)
    (fun l => Or.inl (recd_none c l)) W (fun p hp => hW hp))
  ihave H0 := (Entails.of_eq (owns_view_whole c cc1_stg0_0 (V c main_v2)).symm) $$ H0
  ihave H1 := (Entails.of_eq (owns_view_whole c cc1_stg1_0 (V c main_v3)).symm) $$ H1
  ihave H2 := (Entails.of_eq (owns_view_whole c cc1_stg2_0 (V c main_v4)).symm) $$ H2
  ihave H3 := (Entails.of_eq (owns_view_whole c cc1_stg3_0 (V c main_v5)).symm) $$ H3
  ihave H4 := (Entails.of_eq (owns_view_whole c cc1_stg4_0 f4).symm) $$ H4
  isplitl [H0 H1 H2 H3 H4 HO h0 h1 h2 h3 r0 r1 r2 r3 S0 S1 S2 S3 Hc0 Hc1 Hc2 Hc3]
  · isplitl [H0]; · iexact H0
    isplitl [H1 H2 H3]
    · isplitl [H1]; · iexact H1
      isplitl [H2]; · iexact H2
      iexact H3
    isplitl [H4]; · iexact H4
    isplitl [HO]; · iexact HO
    isplitl [h0 r0 Hc0 S0]
    · isplitl [h0]; · iexact h0
      isplitl [r0]; · iexact r0
      isplitl [Hc0]; · iexact Hc0
      iexact S0
    isplitl [h1 r1 Hc1 S1]
    · isplitl [h1]; · iexact h1
      isplitl [r1]; · iexact r1
      isplitl [Hc1]; · iexact Hc1
      iexact S1
    isplitl [h2 r2 Hc2 S2]
    · isplitl [h2]; · iexact h2
      isplitl [r2]; · iexact r2
      isplitl [Hc2]; · iexact Hc2
      iexact S2
    isplitl [h3]; · iexact h3
    isplitl [r3]; · iexact r3
    isplitl [Hc3]; · iexact Hc3
    iexact S3
  iintro ⟨H0, ⟨H1, H2, H3⟩, H4, ⟨%W', %hW', HO⟩, ⟨X0, Hc0, S0⟩, ⟨X1, Hc1, S1⟩, ⟨X2, Hc2, S2⟩, ⟨X3, Hc3, S3⟩⟩
  ihave H0 := (Entails.of_eq (owns_view_whole c cc1_stg0_0 (V c main_v2))) $$ H0
  ihave H1 := (Entails.of_eq (owns_view_whole c cc1_stg1_0 (V c main_v3))) $$ H1
  ihave H2 := (Entails.of_eq (owns_view_whole c cc1_stg2_0 (V c main_v4))) $$ H2
  ihave H3 := (Entails.of_eq (owns_view_whole c cc1_stg3_0 (V c main_v5))) $$ H3
  ihave H4 := (Entails.of_eq (owns_view_whole c cc1_stg4_0 _)) $$ H4
  isplitl [X0 X1 X2 X3 S0 S1 S2 S3 Hc0 Hc1 Hc2 Hc3]
  · isplitl [X0 X1 X2 X3]
    · iapply (Entails.of_eq ((score_blocks c (V c main_arg0)).trans (four _)).symm)
      isplitl [X0]; · iexact X0
      isplitl [X1]; · iexact X1
      isplitl [X2]; · iexact X2
      iexact X3
    isplitl [Hc0 Hc1 Hc2 Hc3]
    · isplitl [Hc0]; · iexact Hc0
      isplitl [Hc1]; · iexact Hc1
      isplitl [Hc2]; · iexact Hc2
      iexact Hc3
    iapply (((Entails.of_eq (four _).symm).trans (ring_join c)))
    isplitl [S0]; · iexact S0
    isplitl [S1]; · iexact S1
    isplitl [S2]; · iexact S2
    iexact S3
  isplitl [HO]
  · iexists W'; isplitr; · ipureintro; exact fun p hp => hW' p hp
    iexact HO
  isplitl [H0]; · iexists _; isplitr; swap; (· iexact H0); ipureintro; dsimp only [dats]
  isplitl [H1]; · iexists _; isplitr; swap; (· iexact H1); ipureintro; dsimp only [dats]
  isplitl [H2]; · iexists _; isplitr; swap; (· iexact H2); ipureintro; dsimp only [dats]
  isplitl [H3]; · iexists _; isplitr; swap; (· iexact H3); ipureintro; dsimp only [dats]
  iexists _; isplitr; swap; (· iexact H4); ipureintro
  exact View.read_writes_full (stage1_4 0).view f4 inb_S1x1_S1x1_0_0 (fun _ => outW c V) []

/-! ## The region -/

/-- The four semaphores of the body's ring. -/
abbrev osem (s : Fin 4) : SemLoc sig := .dma (csm s).sem
theorem ownSemFacts : Pipeline.OwnSemFacts spec1 osem := by decide

omit [FloatOps F] in
theorem ownSems0_eq : (Pipeline.ownSems0 (Ix := HIx 1) (Name := ℕ) (U := UU) (Lvl := ℕ) (Val := Elt F) (τ := τ) osem c : sProp 𝕄)
    = iprop(cellP c 0 ∗ cellP c 1 ∗ cellP c 2 ∗ cellP c 3) :=
  Pipeline.ownSems0_eq_of_list c osem [0, 1, 2, 3] (by decide) (by decide)

abbrev adm : (p : Fin 1) → (pcfgs (F := F) p).Adm := fun p => (cfgs p).toPCfg_adm

/-- The five arrays the windows name, each whole. -/
theorem arrays_eq (G : (w : Fin cfg1.W) → Buf (Elt F) ((cfg1.win w).arr.view.loc (c : Thread nD τ))) :
    ((dats V 0 c).arrays G : sProp 𝕄) = iprop(((c : Thread nD τ).loc main_v2 ↦{fullShare} G 0) ∗ ((c : Thread nD τ).loc main_v3 ↦{fullShare} G 1)
      ∗ ((c : Thread nD τ).loc main_v4 ↦{fullShare} G 2) ∗ ((c : Thread nD τ).loc main_v5 ↦{fullShare} G 3)
      ∗ ((c : Thread nD τ).loc main_v6 ↦{fullShare} G 4)) := by
  unfold Dat.arrays
  simp only [(dats V 0 c).share_full fun _ => rfl]
  rw [bigSep_W1]
  rw [← owns_view_whole c main_v2, ← owns_view_whole c main_v3, ← owns_view_whole c main_v4, ← owns_view_whole c main_v5, ← owns_view_whole c main_v6]

/-- The result array after the region: the word the body stored. -/
theorem out_final : (dats V 0 c).arrAt 4 cfg1.N = (fun _ => outW c V : Buf (Elt F) ((c : Thread nD τ).loc main_v6)) := by
  refine (dats V 0 c).arrAt_eq_of_after_last 4 t1_0 (by decide +kernel) _ fun j => ?_
  rfl

/-- What the core owes beside the region: nothing, its recorded waits below the call's last stage. -/
abbrev owesB : sProp 𝕄 := iprop(∃ W, ⌜(K (F := F)).WBelow (c : Thread nD τ) W 8⌝ ∗ owes (c : Thread nD τ) (0 : CellTallies nD τ sig (HIx 1)) W)

def reg0 [∀ e, Nonempty (Elt F e)] : Pipeline.RegionSeg (pcfgs (F := F)) adm (dats V) (none : HIx 1) defs₀ 𝒱₀ (K (F := F)).L (K (F := F)).lev 0 where
  win := launch1.win.to₀
  block_pos := launch1.block_pos
  stage_whole := launch1.stage_whole
  K := Fin 4
  osem := osem
  ho := ownSemFacts
  hbody c := (body_obligation c V).loose
  hwaits := Pipeline.hwaits_of_owed_zero _ _ _ _ (K (F := F)).L (K (F := F)).lev 0 fun _ _ => rfl
  pre c := iprop(((c : Thread nD τ).loc main_v2 ↦{fullShare} V c main_v2) ∗ ((c : Thread nD τ).loc main_v3 ↦{fullShare} V c main_v3)
      ∗ ((c : Thread nD τ).loc main_v4 ↦{fullShare} V c main_v4) ∗ ((c : Thread nD τ).loc main_v5 ↦{fullShare} V c main_v5)
      ∗ ((c : Thread nD τ).loc main_v6 ↦{fullShare} V c main_v6) ∗ ((c : Thread nD τ).loc main_arg0 ↦{fullShare} V c main_arg0) ∗ owesB (F := F) c)
  post c := iprop(((c : Thread nD τ).loc main_v6 ↦{fullShare} (fun _ => outW c V : Buf (Elt F) ((c : Thread nD τ).loc main_v6)))
      ∗ ((c : Thread nD τ).loc main_arg0 ↦{fullShare} V c main_arg0) ∗ owesB (F := F) c)
  X c := iprop(((c : Thread nD τ).loc main_arg0 ↦{fullShare} V c main_arg0) ∗ cellP c 0 ∗ cellP c 1 ∗ cellP c 2 ∗ cellP c 3)
  Y c := ((c : Thread nD τ).loc main_arg0 ↦{fullShare} V c main_arg0)
  Z c := iprop(emp)
  hentry c := by
    rw [ownSems0_eq]
    iintro ⟨⟨H2, H3, H4, H5, H6, HX, HO⟩, Hos, -⟩
    imodintro
    isplitl [H2 H3 H4 H5 H6]
    · iapply (Entails.of_eq (arrays_eq c V ((dats V 0 c).arrAt · 0)).symm)
      isplitl [H2]; · iexact H2
      isplitl [H3]; · iexact H3
      isplitl [H4]; · iexact H4
      isplitl [H5]; · iexact H5
      iexact H6
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitl [HX Hos]
    · isplitl [HX]; · iexact HX
      iexact Hos
    iempintro
  hin c := by
    rw [show (dats V 0 c).Φ 0 = Φc c V from rfl]; unfold Φc
    iintro ⟨⟨HX, Hos⟩, -, Hr⟩
    isplitl [HX]; · iexact HX
    isplitl [Hos] <;> iassumption
  hout c := by
    rw [ownSems0_eq, show (dats V 0 c).Φ (Fin.last cfg1.N) = Φc c V from rfl]; unfold Φc
    iintro ⟨HX, Hos, Hr⟩
    isplitl [HX]; · iexact HX
    isplitl [Hos] <;> iassumption
  hexit c := by
    iintro ⟨Ha, HO, HX, -⟩
    ihave Ha := (Entails.of_eq (arrays_eq c V ((dats V 0 c).arrAt · cfg1.N))) $$ Ha
    icases Ha with ⟨-, -, -, -, H6⟩
    imodintro
    isplitl [H6]
    · iapply (Entails.of_eq (congrArg (fun f => ((c : Thread nD τ).loc main_v6 ↦{fullShare} f : sProp 𝕄)) (out_final c V)))
      iexact H6
    isplitl [HX]; · iexact HX
    unfold Pipeline.Dat.owesAt Pipeline.owesWithin
    icases HO with ⟨%W, %hW, HO⟩; iexists W; isplitr
    · ipureintro; intro p hp
      rcases hW hp with h | ⟨w, s, h⟩
      · exact h
      · rw [h]; exact Nat.zero_le _
    iexact HO

end Cert.Proof.OfIdeal

end

end
-- ==== Proof.IdealMain.lean ====
/-
  The program's @main on a device: the host's reshapes, the SparseCore call, the TensorCore region, and the whole run,
  with every buffer's final contents named.
-/
module

public import proofs.«01_k».proof.Proof.IdealRegion
public import Idealize.ShloMosaic.Lib.StableHlo.Run

@[expose] public section

set_option backward.isDefEq.respectTransparency.types false

noncomputable section

namespace Cert.Proof.OfIdeal

open Cert.KernelIdeal Cert.KernelIdeal.Gen
open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)

variable {F : FTy → Type} [FloatOps F]

local notation "𝕄" => MT nD τ sig (HIx 1) (Elt F) ℕ UU ℕ

variable (m : (ℓ : Loc nD τ sig) → Buf (Elt F) ℓ) (ρ : Dev nD → PrngReg)

/-! ## A reshape on the host -/

section Step

variable (d : Dev nD) (x y : Ref sig .tc) (hxy : x ≠ y) (f : Buf (Elt F) ((SparseCore.T d).loc x)) (g : Buf (Elt F) ((SparseCore.T d).loc y))

/-- The launch contents with `x` at `f` and `y` at `g`. -/
def twoV : Valuation τ sig (Elt F) :=
  Function.update (Function.update (fun b => m (d, b) : Valuation τ sig (Elt F)) (Proc.devRef .tc x) f) (Proc.devRef .tc y) g
omit [FloatOps F] in
theorem twoV_y : twoV m d x y f g (Proc.devRef .tc y) = g := Function.update_self _ _ _
include hxy in
omit [FloatOps F] in
theorem twoV_x : twoV m d x y f g (Proc.devRef .tc x) = f :=
  (Function.update_of_ne (StableHlo.devRef_ne_of_ne hxy) _ _).trans (Function.update_self _ _ _)

include hxy in
omit [FloatOps F] in
theorem held_two (W : Valuation τ sig (Elt F)) :
    (held (SparseCore.T d) {Proc.devRef .tc x, Proc.devRef .tc y} W : sProp 𝕄)
      = iprop(((SparseCore.T d).loc x ↦{fullShare} (W (Proc.devRef .tc x) : Buf (Elt F) ((SparseCore.T d).loc x)))
          ∗ ((SparseCore.T d).loc y ↦{fullShare} (W (Proc.devRef .tc y) : Buf (Elt F) ((SparseCore.T d).loc y)))) := by
  unfold StableHlo.held
  rw [SparseCore.bigSep_insert' (fun h => StableHlo.devRef_ne_of_ne hxy (Finset.mem_singleton.mp h)), bigSep_singleton]

include m hxy in
/-- A reshape of `x` into `y`: `x` is read, `y` takes the reshaped contents. -/
theorem reshape_step (he : x.ty.elt = y.ty.elt) (hn : x.ty.shape.ShapeCasts y.ty.shape) (hx hy) (Q : PUnit → sProp 𝕄) :
    iprop(boundary (SparseCore.T d) ∗ ((SparseCore.T d).loc x ↦{fullShare} f) ∗ ((SparseCore.T d).loc y ↦{fullShare} g))
      ⊢ iprop(((boundary (SparseCore.T d) ∗ ((SparseCore.T d).loc x ↦{fullShare} f)
            ∗ ((SparseCore.T d).loc y ↦{fullShare} (fun i => he ▸ shapeCast y.ty.shape f hn i : Buf (Elt F) ((SparseCore.T d).loc y)))) -∗ Q ⟨⟩)
          -∗ wp frame (wpE ((K (F := F)).defs (D (F := F))) 𝒱 (SparseCore.T d) none) Set.univ
              (hlo rfl (StableHlo.reshape (τ := τ) (Val := Elt F) x y he hn hx hy) (fun _ => .ret ⟨⟩)) Q) := by
  iintro ⟨Hb, Hx, Hy⟩ Hk
  iapply (wp_hlo_within 𝒱 (SparseCore.T d) none Set.univ (op := StableHlo.reshape (τ := τ) (Val := Elt F) x y he hn hx hy)
    (S := {Proc.devRef .tc x, Proc.devRef .tc y}) (Finset.Subset.refl _) (V := twoV m d x y f g)) $$ [Hb Hx Hy]
  · isplitl [Hb]; · iexact Hb
    rw [held_two d x y hxy, twoV_x m d x y hxy, twoV_y]
    isplitl [Hx]; · iexact Hx
    iexact Hy
  iintro ⟨Hb, Hh⟩
  ihave Hh := (Entails.of_eq (show _ = iprop(((SparseCore.T d).loc x ↦{fullShare} f)
      ∗ ((SparseCore.T d).loc y ↦{fullShare} (fun i => he ▸ shapeCast y.ty.shape f hn i : Buf (Elt F) ((SparseCore.T d).loc y)))) from by
    rw [held_two d x y hxy, StableHlo.reshape_result, StableHlo.reshape_result_ne (h := hxy), twoV_x m d x y hxy])) $$ Hh
  icases Hh with ⟨Hx, Hy⟩
  rw [wp_ret]; imodintro
  iapply Hk
  isplitl [Hb]; · iexact Hb
  isplitl [Hx]; · iexact Hx
  iexact Hy

end Step

/-! ## The values -/

/-- The second table as the call reads it. -/
def wv (d : Dev nD) : Buf (Elt F) (wLoc d) := shapeCast S100000 (m (pLoc d)) shapeCasts_S100000x1_S100000
/-- What the region is handed in its four arrays. -/
def rowL (d : Dev nD) : Buf (Elt F) ((SparseCore.T d : Thread nD τ).loc main_v2) := shapeCast S1x100000 (m (lLoc d)) shapeCasts_S100000_S1x100000
def colY (d : Dev nD) : Buf (Elt F) ((SparseCore.T d : Thread nD τ).loc main_v3) := shapeCast S1024x1 (yF m d) shapeCasts_S1024_S1024x1
def colI (d : Dev nD) : Buf (Elt F) ((SparseCore.T d : Thread nD τ).loc main_v4) := shapeCast S1024x1 (m (iLoc d)) shapeCasts_S1024_S1024x1
def colW (d : Dev nD) : Buf (Elt F) ((SparseCore.T d : Thread nD τ).loc main_v5) := shapeCast S1024x1 (bF m (wv m) d) shapeCasts_S1024_S1024x1

/-- The buffers as the region finds them, those it names; the rest as launched. -/
def V (d : Dev nD) : (b : Ref sig .tc) → Buf (Elt F) ((d : Thread nD τ).loc b) :=
  Function.update (Function.update (Function.update (Function.update (fun b => m ((d : Thread nD τ).loc b)) main_v2 (rowL m d)) main_v3 (colY m d))
    main_v4 (colI m d)) main_v5 (colW m d)
theorem V_v2 (d : Dev nD) : V m d main_v2 = rowL m d := by
  unfold V
  rw [Function.update_of_ne (show main_v2 ≠ main_v5 by decide), Function.update_of_ne (show main_v2 ≠ main_v4 by decide),
    Function.update_of_ne (show main_v2 ≠ main_v3 by decide), Function.update_self]
theorem V_v3 (d : Dev nD) : V m d main_v3 = colY m d := by
  unfold V
  rw [Function.update_of_ne (show main_v3 ≠ main_v5 by decide), Function.update_of_ne (show main_v3 ≠ main_v4 by decide), Function.update_self]
theorem V_v4 (d : Dev nD) : V m d main_v4 = colI m d := by
  unfold V
  rw [Function.update_of_ne (show main_v4 ≠ main_v5 by decide), Function.update_self]
theorem V_v5 (d : Dev nD) : V m d main_v5 = colW m d := by
  unfold V
  rw [Function.update_self]
theorem V_v6 (d : Dev nD) : V m d main_v6 = m ((d : Thread nD τ).loc main_v6) := by
  unfold V
  rw [Function.update_of_ne (show main_v6 ≠ main_v5 by decide), Function.update_of_ne (show main_v6 ≠ main_v4 by decide),
    Function.update_of_ne (show main_v6 ≠ main_v3 by decide), Function.update_of_ne (show main_v6 ≠ main_v2 by decide)]
theorem V_arg0 (d : Dev nD) : V m d main_arg0 = m (xLoc d) := by
  unfold V
  rw [Function.update_of_ne (show main_arg0 ≠ main_v5 by decide), Function.update_of_ne (show main_arg0 ≠ main_v4 by decide),
    Function.update_of_ne (show main_arg0 ≠ main_v3 by decide), Function.update_of_ne (show main_arg0 ≠ main_v2 by decide)]

/-- The program's result on device `d`, as one word. -/
def resW (d : Dev nD) : F .f32 := outW d (V m)
abbrev rLoc (d : Dev nD) : Loc nD τ sig := (SparseCore.T d : Thread nD τ).loc main_v7
def Rv (d : Dev nD) : Buf (Elt F) (rLoc d) := fun _ => resW m d

/-! ## The launch's ghost state -/

def u₀ : UU := (initOf (K (F := F)).hsCells (K (F := F)).hsToks, (initOf (Pipeline.cells cfgs cellOf_inj) (Pipeline.launchToks cfgs cellOf_inj), 1))

abbrev G (d : Dev nD) : sProp 𝕄 := iprop(Pipeline.cellsGhost (Pipeline.pin (pcfgs (F := F)) adm) EP 0 d ∗ Pipeline.toksInit (Pipeline.pin (pcfgs (F := F)) adm) EP 0 d)

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P m (wv m)).x q thr) := by
  have e1 (Φ : Fin 1 → Dev nD → sProp 𝕄) : (bigSep Finset.univ fun d : Dev nD => bigSep Finset.univ fun p => Φ p d) = bigSep Finset.univ (Φ 0) :=
    bigSep_congr fun d _ => bigSep_univ_of_subsingleton (0 : Fin 1)
  unfold u₀
  iintro Hu
  ihave H := (ownU_pair (initOf (K (F := F)).hsCells (K (F := F)).hsToks)
    ((initOf (Pipeline.cells cfgs cellOf_inj) (Pipeline.launchToks cfgs cellOf_inj), 1) : UR sig nD τ × Counters)) $$ Hu
  icases H with ⟨HH, HP⟩
  ihave HP : BI.own (EP (F := F) (initOf (Pipeline.cells cfgs cellOf_inj) (Pipeline.launchToks cfgs cellOf_inj))) $$ [HP]
  · iexact HP
  imod (Pipeline.fund_ghost (Pipeline.pin (pcfgs (F := F)) adm) EP cellOf_inj) $$ HP with ⟨Hg, Ht⟩
  imodintro
  isplitl [HH]; · iexact HH
  isplitl [Hg Ht]
  · rw [bigSep_sep']
    isplitl [Hg]
    · iapply (Entails.of_eq (e1 (Pipeline.cellsGhost (Pipeline.pin (pcfgs (F := F)) adm) EP))); iexact Hg
    iapply (Entails.of_eq (e1 (Pipeline.toksInit (Pipeline.pin (pcfgs (F := F)) adm) EP))); iexact Ht
  rw [show (bigSep Finset.univ fun thr : Thread nD τ => bigSep Finset.univ fun q : Fin 1 => (P (F := F) m (wv m)).x q thr) = bigSep Finset.univ fun _ => iprop(emp) from
    bigSep_congr fun _ _ => bigSep_univ_of_subsingleton (0 : Fin 1),
    show (bigSep Finset.univ fun _ : Thread nD τ => (iprop(emp) : sProp 𝕄)) = iprop(emp) from bigSep_emp_const _]
  iempintro

/-! ## @main -/

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ (iLoc d ↦{fullShare} W main_arg1) ∗ (lLoc d ↦{fullShare} W main_arg2)
      ∗ (pLoc d ↦{fullShare} W main_arg3) ∗ (wLoc d ↦{fullShare} W main_v0) ∗ (yLoc d ↦{fullShare} W main_v1_0) ∗ (bLoc d ↦{fullShare} W main_v1_1)
      ∗ ((SparseCore.T d : Thread nD τ).loc main_v2 ↦{fullShare} W main_v2) ∗ ((SparseCore.T d : Thread nD τ).loc main_v3 ↦{fullShare} W main_v3)
      ∗ ((SparseCore.T d : Thread nD τ).loc main_v4 ↦{fullShare} W main_v4) ∗ ((SparseCore.T d : Thread nD τ).loc main_v5 ↦{fullShare} W main_v5)
      ∗ ((SparseCore.T d : Thread nD τ).loc main_v6 ↦{fullShare} W main_v6) ∗ ((SparseCore.T d : Thread nD τ).loc main_v7 ↦{fullShare} W main_v7)) := by
  unfold unscopedBufs
  rw [show (Finset.univ.filter fun b : Ref sig .tc => ¬ b.isScoped) = {main_arg0, main_arg1, main_arg2, main_arg3, main_v0, main_v1_0, main_v1_1,
      main_v2, main_v3, main_v4, main_v5, main_v6, main_v7} by decide]
  repeat rw [SparseCore.bigSep_insert' (by decide)]
  rw [bigSep_singleton]

abbrev FIN (d : Dev nD) : sProp 𝕄 :=
  iprop((xLoc d ↦{fullShare} m (xLoc d)) ∗ (iLoc d ↦{fullShare} m (iLoc d)) ∗ (lLoc d ↦{fullShare} m (lLoc d)) ∗ (pLoc d ↦{fullShare} m (pLoc d))
    ∗ (rLoc d ↦{fullShare} Rv m d))

/-- The region's entry and exit, at the values named above. -/
theorem reg0_pre [∀ e, Nonempty (Elt F e)] (d : Dev nD) : (reg0 (V m)).pre d
    = iprop(((SparseCore.T d : Thread nD τ).loc main_v2 ↦{fullShare} rowL m d) ∗ ((SparseCore.T d : Thread nD τ).loc main_v3 ↦{fullShare} colY m d)
      ∗ ((SparseCore.T d : Thread nD τ).loc main_v4 ↦{fullShare} colI m d) ∗ ((SparseCore.T d : Thread nD τ).loc main_v5 ↦{fullShare} colW m d)
      ∗ ((SparseCore.T d : Thread nD τ).loc main_v6 ↦{fullShare} m ((SparseCore.T d : Thread nD τ).loc main_v6)) ∗ (xLoc d ↦{fullShare} m (xLoc d)) ∗ owesB (F := F) d) := by
  dsimp only [reg0]; rw [V_v2, V_v3, V_v4, V_v5, V_v6, V_arg0]
theorem reg0_post [∀ e, Nonempty (Elt F e)] (d : Dev nD) : (reg0 (V m)).post d
    = iprop(((SparseCore.T d : Thread nD τ).loc main_v6 ↦{fullShare} (fun _ => resW m d : Buf (Elt F) ((SparseCore.T d : Thread nD τ).loc main_v6)))
      ∗ (xLoc d ↦{fullShare} m (xLoc d)) ∗ owesB (F := F) d) := by
  dsimp only [reg0, resW]; rw [V_arg0]

set_option maxHeartbeats 2000000 in
theorem hmain [∀ e, Nonempty (Elt F e)] (κ : GSem nD τ sig → ℕ) (d : Dev nD) :
    iprop((K (F := F)).ctx EH (P m (wv m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hx, Hi, Hl, Hp, Hw, Hy, Hbb, H2, H3, H4, H5, H6, H7⟩, Hts, -⟩, HG⟩
  -- the second table, reshaped
  iapply (reshape_step m d main_arg3 main_v0 (by decide) (m (pLoc d)) (m (wLoc d)) rfl shapeCasts_S100000x1_S100000 _ _) $$ [Hb Hp Hw]
  · isplitl [Hb]; · iexact Hb
    isplitl [Hp]; · iexact Hp
    iexact Hw
  iintro ⟨Hb, Hp, Hw⟩
  ihave Hw : (wLoc d ↦{fullShare} wv m d) $$ [Hw]
  · iexact Hw
  -- the call
  ihave Hcall := (call_in m (wv m) d) $$ [Hi Hl Hw Hy Hbb]
  · isplitl [Hi]; · iexact Hi
    isplitl [Hl]; · iexact Hl
    isplitl [Hw]; · iexact Hw
    isplitl [Hy]; · iexact Hy
    iexact Hbb
  icases Hcall with ⟨Hrest, Hcall⟩
  iapply ((K (F := F)).wp_run (D (F := F)) 𝒱 (EH := EH) (P := P m (wv m)) κ d 0) $$ [Hst Hcall Hrest Hb Hx Hp H2 H3 H4 H5 H6 H7 Hts HG]
  isplitr; · iexact Hctx
  isplitl [Hst]; · iexact Hst
  isplitl [Hcall]; · iexact Hcall
  iintro ⟨Hst, Hdn⟩
  ihave Hcall := (call_out m (wv m) d) $$ [Hrest Hdn]
  · isplitl [Hrest] <;> iassumption
  icases Hcall with ⟨Hi, Hl, Hw, Hy, Hbb⟩
  -- its results and the two index arrays, reshaped for the region
  iapply (reshape_step m d main_arg2 main_v2 (by decide) (m (lLoc d)) (m ((SparseCore.T d : Thread nD τ).loc main_v2)) rfl shapeCasts_S100000_S1x100000 _ _) $$ [Hb Hl H2]
  · isplitl [Hb]; · iexact Hb
    isplitl [Hl]; · iexact Hl
    iexact H2
  iintro ⟨Hb, Hl, H2⟩
  ihave H2 : ((SparseCore.T d : Thread nD τ).loc main_v2 ↦{fullShare} rowL m d) $$ [H2]
  · iexact H2
  iapply (reshape_step m d main_v1_0 main_v3 (by decide) (yF m d) (m ((SparseCore.T d : Thread nD τ).loc main_v3)) rfl shapeCasts_S1024_S1024x1 _ _) $$ [Hb Hy H3]
  · isplitl [Hb]; · iexact Hb
    isplitl [Hy]; · iexact Hy
    iexact H3
  iintro ⟨Hb, Hy, H3⟩
  ihave H3 : ((SparseCore.T d : Thread nD τ).loc main_v3 ↦{fullShare} colY m d) $$ [H3]
  · iexact H3
  iapply (reshape_step m d main_arg1 main_v4 (by decide) (m (iLoc d)) (m ((SparseCore.T d : Thread nD τ).loc main_v4)) rfl shapeCasts_S1024_S1024x1 _ _) $$ [Hb Hi H4]
  · isplitl [Hb]; · iexact Hb
    isplitl [Hi]; · iexact Hi
    iexact H4
  iintro ⟨Hb, Hi, H4⟩
  ihave H4 : ((SparseCore.T d : Thread nD τ).loc main_v4 ↦{fullShare} colI m d) $$ [H4]
  · iexact H4
  iapply (reshape_step m d main_v1_1 main_v5 (by decide) (bF m (wv m) d) (m ((SparseCore.T d : Thread nD τ).loc main_v5)) rfl shapeCasts_S1024_S1024x1 _ _) $$ [Hb Hbb H5]
  · isplitl [Hb]; · iexact Hb
    isplitl [Hbb]; · iexact Hbb
    iexact H5
  iintro ⟨Hb, Hbb, H5⟩
  ihave H5 : ((SparseCore.T d : Thread nD τ).loc main_v5 ↦{fullShare} colW m d) $$ [H5]
  · iexact H5
  -- the region
  ihave #Hlev := ((K (F := F)).ctx_levAts (EH := EH) (P := P m (wv m)) κ) $$ Hctx
  unfold SparseCore.Cfg.tcSt
  icases Hst with ⟨⟨%W, %hW, HO⟩, Hst⟩
  rw [(K (F := F)).Otc_end d (le_refl _)]
  icases HG with ⟨Hg, Ht⟩
  iapply ((K (F := F)).wp_liftProg (D (F := F)) 𝒱 (SparseCore.T d) Set.univ none (Prog.lift (.customCall (Pipeline.entry 0) ())) _)
  iapply (Pipeline.RegionSeg.wp (pcfgs (F := F)) adm (dats (V m)) (none : HIx 1) cellOf_inj EP defs₀ 𝒱₀ (K (F := F)).L (K (F := F)).lev (reg0 (V m)) d none
    (fun _ h => nomatch h) .ret _)
  isplitr [Hb HO H2 H3 H4 H5 H6 Hx Hg Ht]
  · iintro ⟨Hb, Hpost⟩
    ihave Hpost := (Entails.of_eq (reg0_post m d)) $$ Hpost
    icases Hpost with ⟨H6, Hx, ⟨%W', %hW', HO⟩⟩
    rw [wp_ret]; imodintro
    -- the result, reshaped to a scalar
    iapply (reshape_step m d main_v6 main_v7 (by decide) (fun _ => resW m d) (m ((SparseCore.T d : Thread nD τ).loc main_v7)) rfl shapeCasts_S1x1_S_ _ _) $$ [Hb H6 H7]
    · isplitl [Hb]; · iexact Hb
      isplitl [H6]; · iexact H6
      iexact H7
    iintro ⟨Hb, H6, H7⟩
    imodintro
    isplitl [HO Hst]
    · isplitl [HO]
      · iexists W'; isplitr; · ipureintro; exact hW'
        iexact HO
      iexact Hst
    isplitr [Hb Hts]
    · isplitl [Hx]; · iexact Hx
      isplitl [Hi]; · iexact Hi
      isplitl [Hl]; · iexact Hl
      isplitl [Hp]; · iexact Hp
      iexact H7
    isplitl [Hb] <;> iassumption
  isplitl [Hb]; · iexact Hb
  isplitl [HO H2 H3 H4 H5 H6 Hx]
  · iapply (Entails.of_eq (reg0_pre m d).symm)
    isplitl [H2]; · iexact H2
    isplitl [H3]; · iexact H3
    isplitl [H4]; · iexact H4
    isplitl [H5]; · iexact H5
    isplitl [H6]; · iexact H6
    isplitl [Hx]; · iexact Hx
    iexists W; isplitr; · ipureintro; exact hW
    iapply (Entails.of_eq (congrArg (fun O => (owes (SparseCore.T d : Thread nD τ) O W : sProp 𝕄)) ((K (F := F)).Otc_end d (n := 0 + 1) (le_refl _)))); iexact HO
  isplitr; · iexact Hlev
  isplitl [Hg] <;> iassumption

/-! ## The run -/

def fq (d : Dev nD) (s' : Phys nD τ sig (Elt F)) : Prop :=
  s'.mem.mem (rLoc d) = Rv m d ∧ s'.mem.mem (xLoc d) = m (xLoc d) ∧ s'.mem.mem (iLoc d) = m (iLoc d) ∧ s'.mem.mem (lLoc d) = m (lLoc d)
    ∧ s'.mem.mem (pLoc d) = m (pLoc d)

set_option maxRecDepth 16384 in
theorem hfin (d : Dev nD) (s' : Phys nD τ sig (Elt F)) : iprop(FIN m d ∗ SI s') ⊢ (⌜fq m d s'⌝ : sProp 𝕄) := by
  iintro ⟨⟨Hx, Hi, Hl, Hp, Hr⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%hx, HSI, -⟩
  ihave H := (persistent_entails_right (SI_pointsTo_agree (st := s') (ℓ := iLoc d) (I := Finset.univ) (q := fullShare) (f := m (iLoc d)))) $$ [HSI Hi]
  · isplitl [HSI] <;> iassumption
  icases H with ⟨%hi, HSI, -⟩
  ihave H := (persistent_entails_right (SI_pointsTo_agree (st := s') (ℓ := lLoc d) (I := Finset.univ) (q := fullShare) (f := m (lLoc d)))) $$ [HSI Hl]
  · isplitl [HSI] <;> iassumption
  icases H with ⟨%hl, HSI, -⟩
  ihave H := (persistent_entails_right (SI_pointsTo_agree (st := s') (ℓ := pLoc d) (I := Finset.univ) (q := fullShare) (f := m (pLoc d)))) $$ [HSI Hp]
  · isplitl [HSI] <;> iassumption
  icases H with ⟨%hp, HSI, -⟩
  ihave H := (SI_pointsTo_agree (st := s') (ℓ := rLoc d) (I := Finset.univ) (q := fullShare) (f := Rv m d)) $$ [HSI Hr]
  · isplitl [HSI] <;> iassumption
  icases H with %hr
  ipureintro
  exact ⟨funext fun i => hr i (Finset.mem_univ i), funext fun i => hx i (Finset.mem_univ i), funext fun i => hi i (Finset.mem_univ i),
    funext fun i => hl i (Finset.mem_univ i), funext fun i => hp i (Finset.mem_univ i)⟩

/-- What a run ends with: the result, the four arguments as launched, every counter at zero. -/
def QC : PUnit × MemSt nD τ sig (Elt F) → Prop := fun r =>
  (∀ d : Dev nD, r.2.mem (rLoc d) = Rv m d ∧ r.2.mem (xLoc d) = m (xLoc d) ∧ r.2.mem (iLoc d) = m (iLoc d) ∧ r.2.mem (lLoc d) = m (lLoc d)
    ∧ r.2.mem (pLoc d) = m (pLoc d)) ∧ r.2.sem = fun _ => 0

/-- From a launch with every index in range, the program ends there. -/
theorem run_main [∀ e, Nonempty (Elt F e)] (hr : InRange m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m (wv m)) (A := ∅) facts v₀
    (fun q hq => match q with | 0 => nomatch hq)
    (fun q _ => match q with | 0 => tileObl m (wv m) hr)
    (fun q _ => match q with | 0 => SparseCore.Cfg.VecSplit.of_plain (vecSplit m (wv m)))
    m ρ main (fun d => G d) (FIN m) (u₀ (F := F)) (sep_elim_left.trans (hu₀ m)) (hmain m ρ) (fq m) (hfin m) (QC m) (fun _ h hz => ⟨h, hz⟩)

end Cert.Proof.OfIdeal

end

end
-- ==== Proof.Inputs.lean ====
/-
  What the two preconditions say of the arrays: every index names a row of the tables; and, of `proper`, every
  entry of `x` is above -∞ and every weight is a real number.
-/
module

public import proofs.«01_k».proof.Defs
public import proofs.«01_k».proof.Proof.Gen.Pre_in_range
public import proofs.«01_k».proof.Proof.Gen.Pre_proper
public import Idealize.ShloMosaic.Lib.ReduceAll
public import Idealize.ShloMosaic.Lib.IdealHost
public import Idealize.ShloMosaic.Lib.Pointwise

@[expose] public section

namespace Cert.Proof.Inputs

open Idealize.ShloMosaic

/-- A truth value's one-bit word is 1 exactly when it is true. -/
theorem bit_of_bool (b : Bool) : BitVec.ofBool b = 1#1 ↔ b = true := by cases b <;> decide

/-- A word that is at least zero and below 100000, both signed, is below 100000 as a natural number. -/
theorem word_below (v : BitVec 32) (e : IntOp.andi (IntOp.cmpi .sge v 0#32) (IntOp.cmpi .slt v 100000#32) = 1#1) : v.toNat < 100000 := by
  obtain ⟨e1, e2⟩ := IntOp.andi_eq_one.1 e
  simp only [IntOp.cmpi, bit_of_bool, BitVec.sle_eq_decide, BitVec.slt_eq_decide, decide_eq_true_eq,
    BitVec.toInt_eq_toNat_cond, BitVec.toNat_ofNat, Nat.reducePow, Nat.reduceMod] at e1 e2
  omega

/-- The words of -∞ and of +∞. -/
theorem word_bot : Ideal.ofBits .f32 0xFF800000#32 = (⊥ : EReal) := by simp [Ideal.ofBits, Ideal.ieee]
theorem word_top : Ideal.ofBits .f32 0x7F800000#32 = (⊤ : EReal) := by simp [Ideal.ofBits, Ideal.ieee]

/-- An extended real whose absolute value is below +∞ is a real number. -/
theorem real_of_abs (y : EReal) (lt : max y (-y) < (⊤ : EReal)) : ∃ r : ℝ, y = (r : EReal) := by
  induction y with
  | bot => simp at lt
  | top => simp at lt
  | coe r => exact ⟨r, rfl⟩

instance : Subsingleton (Cert.Pre_proper.S_).Idx := ⟨fun a b => funext fun i => i.elim0⟩
instance : Subsingleton (Cert.Pre_in_range.S_).Idx := ⟨fun a b => funext fun i => i.elim0⟩

variable {F : FTy → Type} [FloatOps F]

/-- `in_range`, read at one index. -/
theorem index_of_in_range (x : FVec F Cert.Pre_in_range.S1024x100000 .f32) (i : IVec Cert.Pre_in_range.S1024 32)
    (l : IVec Cert.Pre_in_range.S100000 32) (w : FVec F Cert.Pre_in_range.S100000x1 .f32)
    (h : Cert.Pre_in_range.fn x i l w = fun _ => 1#1) (j : Cert.Pre_in_range.S1024.Idx) : (i j).toNat < 100000 := by
  have e := congrFun h (fun a => a.elim0)
  exact word_below (i j) (Host.reduce_andi_all _ _ _ _ _ e j)

/-- `proper`, read at one index, one entry of `x`, one weight. -/
theorem of_proper (x : FVec Ideal Cert.Pre_proper.S1024x100000 .f32) (i : IVec Cert.Pre_proper.S1024 32)
    (l : IVec Cert.Pre_proper.S100000 32) (w : FVec Ideal Cert.Pre_proper.S100000x1 .f32)
    (h : Cert.Pre_proper.fn x i l w = fun _ => 1#1) :
    (∀ j, (i j).toNat < 100000) ∧ (∀ j, (⊥ : EReal) < x j) ∧ ∀ j, ∃ r : ℝ, w j = (r : EReal) := by
  have e := congrFun h (fun a => a.elim0)
  obtain ⟨e1, e2⟩ := IntOp.andi_eq_one.1 e
  obtain ⟨e3, e4⟩ := IntOp.andi_eq_one.1 e1
  refine ⟨fun j => word_below (i j) (Host.reduce_andi_all _ _ _ _ _ e3 j), fun j => ?_, fun j => ?_⟩
  · have q := Host.reduce_andi_all _ _ _ _ _ e4 j
    have q' : Ideal.cmp .ogt (x j) (Ideal.ofBits .f32 0xFF800000#32) = 1#1 := q
    rw [word_bot] at q'
    simpa [Ideal.cmp, bit_of_bool] using q'
  · have q := Host.reduce_andi_all _ _ _ _ _ e2 j
    have q' : Ideal.cmp .olt (max (w j) (-(w j))) (Ideal.ofBits .f32 0x7F800000#32) = 1#1 := q
    rw [word_top] at q'
    exact real_of_abs _ (by simpa [Ideal.cmp, bit_of_bool] using q')

end Cert.Proof.Inputs

end
-- ==== Proof.Loss.lean ====
/-
  The mathematics of the loss, over the extended reals, away from any program: one row's loss, that it is a real number
  when no score is -∞, and that the mean over all pairs factors into two sums.
-/
module

public import Idealize.ShloMosaic.Lib.IdealHost
public import Idealize.ShloMosaic.Lib.Pointwise

@[expose] public section

noncomputable section

namespace Cert.Proof.Loss

open Idealize.ShloMosaic

/-! ## The literals -/

abbrev oneW : EReal := Ideal.ofBits .f32 0x3F800000#32
/-- The exponent, about 0.7. -/
abbrev qW : EReal := Ideal.ofBits .f32 0x3F333333#32
/-- The constant (1 - 0.5^q) / q, about 0.549. -/
abbrev cW : EReal := Ideal.ofBits .f32 0x3F0C973A#32
/-- 1/1024. -/
abbrev shareW : EReal := Ideal.ofBits .f32 0x3A800000#32
/-- 1024 · 1024. -/
abbrev areaW : EReal := Ideal.ofBits .f32 0x49800000#32

theorem oneW_eq : oneW = ((1 : ℝ) : EReal) := by simp [oneW]
theorem qW_eq : qW = ((11744051 / 16777216 : ℝ) : EReal) := by
  simp [Ideal.ofBits, Ideal.ieee]
  rw [← EReal.coe_mul]; norm_num
theorem cW_real : ∃ r : ℝ, cW = (r : EReal) := by
  simp [Ideal.ofBits, Ideal.ieee]
  exact ⟨_, (EReal.coe_mul _ _).symm⟩
theorem shareW_eq : shareW = ((1 / 1024 : ℝ) : EReal) := by
  simp [Ideal.ofBits, Ideal.ieee]
  rw [← EReal.coe_mul]; norm_num
theorem areaW_eq : areaW = ((1048576 : ℝ) : EReal) := by
  simp [Ideal.ofBits, Ideal.ieee]
  rw [← EReal.coe_mul]; norm_num

/-! ## One row -/

variable (row : Fin 100000 → EReal) (i : BitVec 32) (lab : Fin 100000 → BitVec 32) (y : BitVec 32)

/-- The exponential of a score, the row's own column left out. -/
def expo (j : Fin 100000) : EReal := if BitVec.ofNat 32 j.val = i then 0 else Ideal.exp (row j)
/-- Their sum. -/
def mass : EReal := ∑ j, expo row i j
/-- Their sum over the columns of the row's own label. -/
def same : EReal := ∑ j, if lab j = y then expo row i j else 0
/-- The row's loss, before its weight. -/
def loss : EReal := Ideal.div (oneW - Ideal.pow (Ideal.div (same row i lab y) (mass row i)) qW) qW

theorem exp_nonneg (x : EReal) : 0 ≤ Ideal.exp x := by
  induction x with
  | bot => simp
  | top => simp
  | coe r => rw [Ideal.exp_coe]; exact EReal.coe_nonneg.2 (Real.exp_pos r).le

theorem exp_pos {x : EReal} (h : ⊥ < x) : 0 < Ideal.exp x := by
  induction x with
  | bot => exact absurd h (lt_irrefl _)
  | top => simp
  | coe r => rw [Ideal.exp_coe]; exact EReal.coe_pos.2 (Real.exp_pos r)

theorem expo_nonneg (j : Fin 100000) : 0 ≤ expo row i j := by
  unfold expo
  split
  · exact le_rfl
  · exact exp_nonneg _

theorem same_nonneg : 0 ≤ same row i lab y := Finset.sum_nonneg fun j _ => by
  split
  · exact expo_nonneg row i j
  · exact le_rfl

theorem same_le_mass : same row i lab y ≤ mass row i := Finset.sum_le_sum fun j _ => by
  split
  · exact le_rfl
  · exact expo_nonneg row i j

/-- Some column is not the row's own, and its exponential is positive. -/
theorem mass_pos (h : ∀ j, ⊥ < row j) : 0 < mass row i := by
  obtain ⟨j, hj⟩ : ∃ j : Fin 100000, BitVec.ofNat 32 j.val ≠ i := by
    by_cases e : BitVec.ofNat 32 0 = i
    · exact ⟨1, by rw [← e]; decide⟩
    · exact ⟨0, e⟩
  refine lt_of_lt_of_le (b := expo row i j) ?_ (Finset.single_le_sum (f := expo row i) (fun j _ => expo_nonneg row i j) (Finset.mem_univ j))
  unfold expo
  rw [if_neg hj]
  exact exp_pos (h j)

/-- A part of a positive total, over the total, is a real number: 0 when the total is infinite. -/
theorem div_real {s z : EReal} (h0 : 0 ≤ s) (hs : s ≤ z) (hz : 0 < z) : ∃ r : ℝ, Ideal.div s z = (r : EReal) := by
  induction z with
  | bot => exact absurd hz (by simp)
  | top => exact ⟨0, by unfold Ideal.div; rw [if_neg (by simp)]; simp⟩
  | coe z =>
    have hz' : z ≠ 0 := (EReal.coe_pos.1 hz).ne'
    induction s with
    | bot => exact absurd h0 (by simp)
    | top => exact absurd hs (by simp)
    | coe s => exact ⟨s * (1 / z), by rw [Ideal.div_coe hz', EReal.coe_mul]⟩

/-- No score being -∞, a row's loss is a real number. -/
theorem loss_real (h : ∀ j, ⊥ < row j) : ∃ r : ℝ, loss row i lab y = (r : EReal) := by
  obtain ⟨t, ht⟩ := div_real (same_nonneg row i lab y) (same_le_mass row i lab y) (mass_pos row i h)
  unfold loss
  rw [ht, qW_eq, oneW_eq, Ideal.pow_coe_coe, ← EReal.coe_sub, Ideal.div_coe (by norm_num), ← EReal.coe_mul]
  exact ⟨_, rfl⟩

/-! ## All rows -/

/-- The mean over all pairs of `a k · w n − c · w n` is the product of the means of `a` and `w`, less `c` times `w`'s mean: over the reals. -/
theorem mean_factors (a w : Fin 1024 → ℝ) (c : ℝ) :
    (∑ k, a k) * (1 / 1024) * ((∑ n, w n) * (1 / 1024)) - c * ((∑ n, w n) * (1 / 1024))
      = (∑ n : Fin 1024, ∑ k : Fin 1024, (a k * w n - c * w n)) * (1 / 1048576) := by
  simp only [Finset.sum_sub_distrib, Finset.sum_const, Finset.card_univ, Fintype.card_fin, nsmul_eq_mul, ← Finset.mul_sum, ← Finset.sum_mul]
  push_cast
  ring

/-- A sum of real numbers, as an extended real. -/
theorem coe_sum {ι : Type} (t : Finset ι) (f : ι → ℝ) : ((∑ k ∈ t, f k : ℝ) : EReal) = ∑ k ∈ t, (f k : EReal) := by
  classical
  induction t using Finset.induction_on with
  | empty => simp
  | insert a t ha ih => rw [Finset.sum_insert ha, Finset.sum_insert ha, EReal.coe_add, ih]

/-- The same over the extended reals, of values that are real. -/
theorem mean_factors_ereal (A W : Fin 1024 → EReal) (hA : ∀ k, ∃ r : ℝ, A k = r) (hW : ∀ n, ∃ r : ℝ, W n = r) :
    (∑ k, A k) * shareW * ((∑ n, W n) * shareW) - cW * ((∑ n, W n) * shareW)
      = Ideal.div (∑ n : Fin 1024, ∑ k : Fin 1024, (A k * W n - cW * W n)) areaW := by
  choose a ha using hA
  choose w hw using hW
  obtain ⟨c, hc⟩ := cW_real
  rw [hc, shareW_eq, areaW_eq, Ideal.div_coe (by norm_num)]
  simp only [ha, hw]
  have cs (f : Fin 1024 → ℝ) : (∑ k, (f k : EReal)) = ((∑ k, f k : ℝ) : EReal) := (coe_sum Finset.univ f).symm
  simp only [← EReal.coe_mul, ← EReal.coe_sub, cs]
  rw [mean_factors]

end Cert.Proof.Loss

end

end
-- ==== Proof.KernelValue.lean ====
/-
  What the program's result is over the extended reals: the two running sums are sums over all rows of the row's loss
  and of the row's weight.
-/
module

public import proofs.«01_k».proof.Proof.IdealBody
public import proofs.«01_k».proof.Proof.Loss
public import Idealize.ShloMosaic.Lib.VecWindow
public import Idealize.ShloMosaic.Lib.Pointwise

@[expose] public section

noncomputable section

namespace Cert.Proof.OfIdeal

open Cert.KernelIdeal Cert.KernelIdeal.Gen
open Idealize.ShloMosaic Idealize.ShloMosaic.TcCoe
open Cert.Proof

/-- A select on the equality of two words. -/
theorem select_eq {α : Type} (a b : BitVec 32) (x y : α) : Scalar.select (IntOp.cmpi .eq a b) x y = if a = b then x else y := by
  by_cases h : a = b
  · subst h; simp [Scalar.select, IntOp.cmpi]
  · have q : (a == b) = false := by simpa using h
    show (if BitVec.ofBool (a == b) = 1#1 then x else y) = _
    rw [if_neg h, q, if_neg (by decide)]

/-! ## One block's additions -/

set_option maxRecDepth 16384 in
/-- One block adds its sixteen rows' losses to the first running sum. -/
theorem accA_eq (v2 : IVec S1x100000 32) (a : Ideal .f32) (x : Vec Ideal S1x16x100000 .f32) (ixs lbs : Vec Ideal S16x1 .i32) :
    accA (F := Ideal) (iota .tc S1x100000 32 [1] iota_S1x100000_d1_w32) v2 a x ixs lbs
      = (a + ∑ r : Fin 16, Loss.loss (fun j => x (ix3 0 r j)) (ixs (ix2 r 0)) (fun j => v2 (ix2 0 j)) (lbs (ix2 r 0)) : EReal) := by
  unfold accA
  pointwise [k1_pay5, k1_pay4, k1_pay3, k1_pay2]
  simp only [select_eq, Fin.sum_univ_one]
  unfold Loss.loss Loss.same Loss.mass Loss.expo
  rw [show Loss.oneW = 1 from Ideal.ofBits_one_f32]

set_option maxRecDepth 16384 in
/-- One block adds its sixteen rows' weights to the second. -/
theorem accB_eq (b : Ideal .f32) (x : Vec Ideal S16x1 .f32) :
    k1_pay6 (F := Ideal) b x = (b + ∑ r : Fin 16, x (ix2 r 0) : EReal) := by
  pointwise [k1_pay6]
  simp only [Fin.sum_univ_one]

/-! ## What a trip loads -/

/-- Row `r` of block `(t, s)`. -/
abbrev rowOf (t s r : ℕ) : ℕ := 64 * t + 16 * s + r
theorem rowOf_lt {t : ℕ} (ht : t < 16) (s : Fin 4) (r : Fin 16) : rowOf t s.val r.val < 1024 := by
  have := s.isLt; have := r.isLt; unfold rowOf; omega

section Loads
variable (c : Dev nD) (X : Buf (Elt Ideal) (aM.view.loc (c : Thread nD τ)))

/-- The block loaded from slot `s` is the sixteen rows of scores that were copied there. -/
theorem xLd_eq (s : Fin 4) (t : Fin 16) (r : Fin 16) (j : Fin 100000) :
    xLd (F := Ideal) c X s t (ix3 0 r j) = (X : S1024x100000.Idx → EReal) (ix2 ⟨rowOf t.val s.val r.val, rowOf_lt t.isLt s r⟩ j) := by
  have h1 : shapeCast S16x100000 (xLd (F := Ideal) c X s t) squeezes_S1x16x100000_S16x100000.numel_eq (ix2 r j) = xLd (F := Ideal) c X s t (ix3 0 r j) := by
    generalize xLd (F := Ideal) c X s t = y
    pointwise
  rw [← h1]
  have h2 := congrFun (View.read_writes_whole (Val := Elt Ideal) (rslot s).view (rslot s).view.junk (payload c X s t)) (ix2 r j)
  refine Eq.trans h2 ?_
  show (X : S1024x100000.Idx → EReal) _ = _
  refine congrArg _ (funext fun a => Fin.ext ?_)
  match a with
  | ⟨0, _⟩ => show 64 * t.val + 16 * s.val + 1 * r.val = 64 * t.val + 16 * s.val + r.val; omega
  | ⟨1, _⟩ => show 0 + 1 * j.val = j.val; omega

/-- The sixteen entries of a column loaded with block `(k, s)`. -/
theorem cLd_eq {e : EltTy} (M : Memref sig .tc .vmem S1024x1 e) (g : Buf (Elt Ideal) (M.view.loc (c : Thread nD τ))) (k : Fin k1_t1_loop.trips) (s : Fin 4) (r : Fin 16) :
    cLd (F := Ideal) c M g k s (ix2 r 0) = M.view.read (Elt Ideal) g (ix2 ⟨rowOf k.val s.val r.val, rowOf_lt (trip_lt k) s r⟩ 0) := by
  have inb : ∀ a, (![64 * k.val + 16 * s.val, 0] : Fin 2 → ℕ) a + S16x1.size a ≤ S1024x1.size a := by
    have := off2_inb k s
    rwa [k1_off2_eq] at this
  rw [cLd, View.readAt_unit (Val := Elt Ideal) M.view g _ (k1_off2_eq k s) inb]
  show M.view.read (Elt Ideal) g _ = _
  refine congrArg (M.view.read (Elt Ideal) g) (funext fun a => Fin.ext ?_)
  match a with
  | ⟨0, _⟩ => show 64 * k.val + 16 * s.val + 1 * r.val = 64 * k.val + 16 * s.val + r.val; omega
  | ⟨1, _⟩ => rfl

end Loads

/-! ## The running sums -/

/-- Four blocks of sixteen after the first `64 k` entries of a list: its first `64 (k + 1)`. -/
theorem four_blocks (f : ℕ → EReal) (k : ℕ) :
    ((((∑ n ∈ Finset.range (64 * k), f n) + ∑ r : Fin 16, f (rowOf k 0 r.val)) + ∑ r : Fin 16, f (rowOf k 1 r.val)) + ∑ r : Fin 16, f (rowOf k 2 r.val))
      + ∑ r : Fin 16, f (rowOf k 3 r.val) = ∑ n ∈ Finset.range (64 * (k + 1)), f n := by
  have e : ∀ s m, 64 * k + 16 * s = m → ∑ r : Fin 16, f (rowOf k s r.val) = ∑ r ∈ Finset.range 16, f (m + r) := fun s m h => by
    subst h
    exact Fin.sum_univ_eq_sum_range (fun r => f (64 * k + 16 * s + r)) 16
  rw [e 0 (64 * k) (by omega), e 1 (64 * k + 16) (by omega), e 2 (64 * k + 16 + 16) (by omega), e 3 (64 * k + 16 + 16 + 16) (by omega),
    show 64 * (k + 1) = 64 * k + 16 + 16 + 16 + 16 by omega, Finset.sum_range_add, Finset.sum_range_add, Finset.sum_range_add, Finset.sum_range_add]

section Sums
variable (c : Dev nD) (X : Buf (Elt Ideal) (aM.view.loc (c : Thread nD τ)))
  (arg1 : Memref sig .tc .vmem S1x100000 .i32) (arg2 arg3 : Memref sig .tc .vmem S1024x1 .i32) (arg4 : Memref sig .tc .vmem S1024x1 .f32)
  (g1 : Buf (Elt Ideal) (arg1.view.loc (c : Thread nD τ)))
  (g2 : Buf (Elt Ideal) (arg2.view.loc (c : Thread nD τ))) (g3 : Buf (Elt Ideal) (arg3.view.loc (c : Thread nD τ)))
  (g4 : Buf (Elt Ideal) (arg4.view.loc (c : Thread nD τ)))

/-- Row `n`'s loss, from the buffers the body is handed. -/
def rowLoss (n : Fin 1024) : EReal :=
  Loss.loss (fun j => (X : S1024x100000.Idx → EReal) (ix2 n j)) (arg3.view.read (Elt Ideal) g3 (ix2 n 0)) (fun j => arg1.view.read (Elt Ideal) g1 (ix2 0 j))
    (arg2.view.read (Elt Ideal) g2 (ix2 n 0))
/-- Row `n`'s weight. -/
def rowWeight (n : Fin 1024) : EReal := arg4.view.read (Elt Ideal) g4 (ix2 n 0)

/-- A list over the rows, continued by zeros. -/
def padded (f : Fin 1024 → EReal) (n : ℕ) : EReal := if h : n < 1024 then f ⟨n, h⟩ else 0
theorem padded_eq (f : Fin 1024 → EReal) {n : ℕ} (h : n < 1024) : padded f n = f ⟨n, h⟩ := dif_pos h
theorem sum_padded (f : Fin 1024 → EReal) : ∑ n ∈ Finset.range 1024, padded f n = ∑ n, f n := by
  rw [← Fin.sum_univ_eq_sum_range]
  exact Finset.sum_congr rfl fun n _ => padded_eq f n.isLt

/-- The labels as the body reads them. -/
abbrev labs : Vec Ideal S1x100000 .i32 :=
  arg1.view.readAt (Elt Ideal) (Rect.unit (s := S1x100000) ![0, 0] S1x100000.size inb_S1x100000_S1x100000_0_0).toLoadRect g1
theorem labs_eq (j : Fin 100000) : k1_pay18 (F := Ideal) (labs c arg1 g1) (ix2 0 j) = arg1.view.read (Elt Ideal) g1 (ix2 0 j) := by
  have h : labs c arg1 g1 = arg1.view.read (Elt Ideal) g1 := View.readAt_full (Val := Elt Ideal) arg1.view g1 _
  rw [h]
  generalize arg1.view.read (Elt Ideal) g1 = y
  pointwise [k1_pay18]

/-- Before trip `k` the two running sums are the sums over the first `64 k` rows. -/
theorem accAt_eq (k : ℕ) (hk : k ≤ 16) :
    accAt (F := Ideal) c X arg2 arg3 arg4 (iota .tc S1x100000 32 [1] iota_S1x100000_d1_w32) (labs c arg1 g1) g2 g3 g4
        (Scalar.ofBits .f32 0x00000000#32, Scalar.ofBits .f32 0x00000000#32) k
      = ((∑ n ∈ Finset.range (64 * k), padded (rowLoss c X arg1 arg2 arg3 g1 g2 g3) n : EReal),
         (∑ n ∈ Finset.range (64 * k), padded (rowWeight c arg4 g4) n : EReal)) := by
  induction k with
  | zero => exact Prod.ext Ideal.ofBits_zero_f32 Ideal.ofBits_zero_f32
  | succ k ih =>
    have hlt : k < k1_t1_loop.trips := by rw [trips_eq]; omega
    rw [accAt, dif_pos hlt, ih (by omega), ← four_blocks, ← four_blocks]
    unfold tripVal
    have hA : ∀ (s : Fin 4) (a : EReal), accA (F := Ideal) (iota .tc S1x100000 32 [1] iota_S1x100000_d1_w32) (k1_pay18 (labs c arg1 g1)) a
        (xLd c X s (Ring.bk 16 k)) (cLd c arg3 g3 ⟨k, hlt⟩ s) (cLd c arg2 g2 ⟨k, hlt⟩ s)
          = a + ∑ r : Fin 16, padded (rowLoss c X arg1 arg2 arg3 g1 g2 g3) (rowOf k s.val r.val) := fun s a => by
      rw [accA_eq]
      refine congrArg (fun z : EReal => a + z) (Finset.sum_congr rfl fun r _ => ?_)
      rw [padded_eq _ (rowOf_lt (by omega : k < 16) s r)]
      unfold rowLoss
      have hx : (fun j => xLd (F := Ideal) c X s (Ring.bk 16 k) (ix3 0 r j)) = fun j => (X : S1024x100000.Idx → EReal) (ix2 ⟨rowOf k s.val r.val, rowOf_lt (by omega) s r⟩ j) := by
        funext j
        refine (xLd_eq c X s (Ring.bk 16 k) r j).trans (congrArg X ?_)
        simp only [Ring.bk_val (show k < 16 by omega)]
      simp only [hx, cLd_eq, labs_eq]
    have hB : ∀ (s : Fin 4) (b : EReal), k1_pay6 (F := Ideal) b (cLd c arg4 g4 ⟨k, hlt⟩ s)
          = b + ∑ r : Fin 16, padded (rowWeight c arg4 g4) (rowOf k s.val r.val) := fun s b => by
      rw [accB_eq]
      refine congrArg (fun z : EReal => b + z) (Finset.sum_congr rfl fun r _ => ?_)
      rw [padded_eq _ (rowOf_lt (by omega : k < 16) s r), cLd_eq]
      rfl
    refine Prod.ext ?_ ?_
    · exact (hA 3 _).trans (congrArg (fun z : EReal => z + _) ((hA 2 _).trans (congrArg (fun z : EReal => z + _) ((hA 1 _).trans (congrArg (fun z : EReal => z + _) (hA 0 _))))))
    · exact (hB 3 _).trans (congrArg (fun z : EReal => z + _) ((hB 2 _).trans (congrArg (fun z : EReal => z + _) ((hB 1 _).trans (congrArg (fun z : EReal => z + _) (hB 0 _))))))

/-- The body's word: the two sums over all rows, combined. -/
theorem outVal_eq :
    outVal (F := Ideal) c X arg1 arg2 arg3 arg4 g1 g2 g3 g4
      = ((∑ k, rowLoss c X arg1 arg2 arg3 g1 g2 g3 k) * Loss.shareW * ((∑ n, rowWeight c arg4 g4 n) * Loss.shareW)
          - Loss.cW * ((∑ n, rowWeight c arg4 g4 n) * Loss.shareW) : EReal) := by
  unfold outVal
  rw [trips_eq, accAt_eq c X arg1 arg2 arg3 arg4 g1 g2 g3 g4 16 (le_refl _), sum_padded, sum_padded]
  rfl

end Sums

end Cert.Proof.OfIdeal

end

end
-- ==== Proof.ReferenceValue.lean ====
/-
  What the reference's result is over the extended reals: its gathers, its scatter and its sums read at an index.
-/
module

public import proofs.«01_k».proof.Proof.Gen.ReferenceIdeal.Run
public import proofs.«01_k».proof.Proof.Loss
public import Idealize.ShloMosaic.Lib.Pointwise
public import Idealize.ShloMosaic.Lib.ReduceAll
public import Idealize.ShloMosaic.Lib.Routing.OpsPair
public import Idealize.ShloMosaic.Lib.Routing.OpsSet

@[expose] public section

noncomputable section

namespace Cert.Proof.Ref

open Cert.ReferenceIdeal Cert.ReferenceIdeal.Gen
open Idealize.ShloMosaic Idealize.ShloMosaic.TcCoe
open Cert.Proof

variable (X : FVec Ideal S1024x100000 .f32) (I : IVec S1024 32) (L : IVec S100000 32) (W : FVec Ideal S100000x1 .f32)

/-! ## The reference's steps, named -/

/-- The indexes, a negative one wrapped. -/
def wrapped : IVec S1024 32 :=
  select (cmpi .slt I (broadcastInDim S1024 ![] bcast_S_S1024 (constantI S_ 32 0#32)))
    (addi I (broadcastInDim S1024 ![] bcast_S_S1024 (constantI S_ 32 100000#32))) I
/-- The same, as a column. -/
def starts : IVec S1024x1 32 := broadcastInDim S1024x1 ![0] bcast_S1024_S1024x1_0 (wrapped I)
/-- Which rows' indexes are in range. -/
def fits : IVec S1024 1 :=
  Host.reduce IntOp.andi (andi (cmpi .sge (starts I) (broadcastInDim S1024x1 ![] bcast_S_S1024x1 (constantI S_ 32 0#32)))
    (cmpi .sle (starts I) (broadcastInDim S1024x1 ![0, 1] bcast_S1x1_S1024x1_0_1 (broadcastInDim S1x1 ![1] bcast_S1_S1x1_1 (constantI S1 32 99999#32)))))
    (constantI S_ 1 1#1) reducesTo_S1024x1_S1024_d1 h_S_
/-- The rows' labels. -/
def takenL : IVec S1024 32 :=
  select (fits I) (Host.gather gather_S100000_S1024x1_S1024_n_0_n_n_0_1_1 L (starts I))
    (broadcastInDim S1024 ![] bcast_S_S1024 (constantI S_ 32 2147483648#32))
/-- The rows' weights. -/
def takenW : FVec Ideal S1024x1 .f32 :=
  select (broadcastInDim S1024x1 ![0] bcast_S1024_S1024x1_0 (fits I)) (Host.gather gather_S100000x1_S1024x1_S1024x1_1_0_n_n_0_1_11 W (starts I))
    (broadcastInDim S1024x1 ![] bcast_S_S1024x1 (constant S_ .f32 0x7FC00000#32))
/-- The row numbers, wrapped as the indexes are. -/
def rowNo : IVec S1024 32 :=
  select (cmpi .slt (iotaInDim S1024 32 0) (broadcastInDim S1024 ![] bcast_S_S1024 (constantI S_ 32 0#32)))
    (addi (iotaInDim S1024 32 0) (broadcastInDim S1024 ![] bcast_S_S1024 (constantI S_ 32 1024#32))) (iotaInDim S1024 32 0)
/-- Where the zeros go: row `r`, column `I r`. -/
def spots : IVec S1024x2 32 :=
  concatenate S1024x2 1 [⟨S1024x1, broadcastInDim S1024x1 ![0] bcast_S1024_S1024x1_0 (rowNo)⟩, ⟨S1024x1, starts I⟩] concatenates_S1024x1_S1024x1_S1024x2_d1
/-- The exponentials, each row's own column at zero. -/
def expos : FVec Ideal S1024x100000 .f32 :=
  Host.scatter scatter_S1024x100000_S1024x2_S1024_n_01_01_1 (fun _ b => b) (Host.exp X) (spots I)
    (broadcastInDim S1024 ![] bcast_S_S1024 (constant S_ .f32 0x00000000#32))
/-- Where a column's label is the row's. -/
def alike : IVec S1024x100000 1 :=
  cmpi .eq (broadcastInDim S1024x100000 ![0, 1] bcast_S1024x1_S1024x100000_0_1 (shapeCast S1024x1 (takenL I L) shapeCasts_S1024_S1024x1))
    (broadcastInDim S1024x100000 ![0, 1] bcast_S1x100000_S1024x100000_0_1 (broadcastInDim S1x100000 ![1] bcast_S100000_S1x100000_1 L))
/-- The rows' losses. -/
def losses : FVec Ideal S1024 .f32 :=
  Host.divf (subf (broadcastInDim S1024 ![] bcast_S_S1024 (constant S_ .f32 0x3F800000#32))
    (Host.powf (Host.divf
        (Host.reduceAdd (mulf (expos X I) (uitofp .f32 (alike I L))) (constant S_ .f32 0x00000000#32) reducesTo_S1024x100000_S1024_d1 h_S_)
        (Host.reduceAdd (expos X I) (constant S_ .f32 0x00000000#32) reducesTo_S1024x100000_S1024_d1 h_S_))
      (broadcastInDim S1024 ![] bcast_S_S1024 (constant S_ .f32 0x3F333333#32))))
    (broadcastInDim S1024 ![] bcast_S_S1024 (constant S_ .f32 0x3F333333#32))
/-- The mean over all pairs, from the losses and the weights. -/
def mean (a : FVec Ideal S1024 .f32) (w : FVec Ideal S1024x1 .f32) : FVec Ideal S_ .f32 :=
  Host.divf (Host.reduceAdd (subf
      (mulf (broadcastInDim S1024x1024 ![0, 1] bcast_S1x1024_S1024x1024_0_1 (broadcastInDim S1x1024 ![1] bcast_S1024_S1x1024_1 a))
        (broadcastInDim S1024x1024 ![0, 1] bcast_S1024x1_S1024x1024_0_1 w))
      (broadcastInDim S1024x1024 ![0, 1] bcast_S1024x1_S1024x1024_0_1
        (mulf (broadcastInDim S1024x1 ![] bcast_S_S1024x1 (constant S_ .f32 0x3F0C973A#32)) w)))
    (constant S_ .f32 0x00000000#32) reducesTo_S1024x1024_S_d0_1 h_S_) (constant S_ .f32 0x49800000#32)

/-- The reference's result is these steps. -/
theorem result_eq (m : (ℓ : Loc nD τ sig) → Buf (Elt Ideal) ℓ) (c : Dev nD) :
    Value.res_main_v44 m c = mean (losses (m ((c.tc : Thread nD τ).loc main_arg0)) (m ((c.tc : Thread nD τ).loc main_arg1)) (m ((c.tc : Thread nD τ).loc main_arg2)))
      (takenW (m ((c.tc : Thread nD τ).loc main_arg1)) (m ((c.tc : Thread nD τ).loc main_arg3))) := rfl

/-! ## Each step at an index -/

theorem mean_eq (a : FVec Ideal S1024 .f32) (w : FVec Ideal S1024x1 .f32) (j : S_.Idx) :
    mean a w j = Ideal.div (∑ n : Fin 1024, ∑ k : Fin 1024, (a (ix1 k) * w (ix2 n 0) - Loss.cW * w (ix2 n 0))) Loss.areaW := by
  pointwise [mean]

theorem wrap_word (v a : BitVec 32) (h : v.toNat < 100000) : Scalar.select (IntOp.cmpi .slt v 0#32) a v = v :=
  Routing.wrap_of_lt v a (by omega)

variable {I}

theorem wrapped_eq (hI : ∀ j, (I j).toNat < 100000) : wrapped I = I := funext fun j => wrap_word _ _ (hI j)

theorem rowNo_eq (j : S1024.Idx) : rowNo j = BitVec.ofNat 32 (j 0).val :=
  wrap_word _ _ (by have := (j 0).isLt; show (BitVec.ofNat 32 (j 0).val).toNat < _; rw [BitVec.toNat_ofNat]; have : (j 0).val < 1024 := (j 0).isLt; omega)

theorem starts_eq (hI : ∀ j, (I j).toNat < 100000) (r : Fin 1024) (z : Fin 1) : starts I (ix2 r z) = I (ix1 r) := by
  unfold starts
  rw [wrapped_eq hI]
  pointwise

theorem fits_eq (hI : ∀ j, (I j).toNat < 100000) (j : S1024.Idx) : fits I j = 1#1 := by
  refine Host.reduce_andi_one _ _ _ _ _ rfl fun k => ?_
  obtain ⟨r, z, rfl⟩ : ∃ (r : Fin 1024) (z : Fin 1), k = ix2 r z := ⟨k 0, k 1, eq_ix2 k⟩
  have h := hI (ix1 r)
  pointwise
  rw [starts_eq hI]
  have hi : (I (ix1 r)).toInt = ((I (ix1 r)).toNat : Int) := BitVec.toInt_eq_toNat_of_lt (by omega)
  refine IntOp.andi_eq_one.2 ⟨?_, ?_⟩
  · show BitVec.ofBool (decide ((0#32).toInt ≤ (I (ix1 r)).toInt)) = 1#1
    rw [decide_eq_true (by rw [hi]; exact Int.natCast_nonneg _)]; rfl
  · show BitVec.ofBool (decide ((I (ix1 r)).toInt ≤ (99999#32).toInt)) = 1#1
    rw [decide_eq_true (by rw [hi]; show _ ≤ (99999 : Int); omega)]; rfl

/-- An index word in range, read signed and clamped to the table, is the word itself. -/
theorem clamped (v : BitVec 32) (h : v.toNat < 100000) : min v.toInt.toNat (100000 - 1) = v.toNat := by
  rw [BitVec.toInt_eq_toNat_of_lt (by omega)]; omega

theorem takenL_eq (hI : ∀ j, (I j).toNat < 100000) (r : Fin 1024) : takenL I L (ix1 r) = L (ix1 ⟨(I (ix1 r)).toNat, hI _⟩) := by
  show Scalar.select (fits I (ix1 r)) (Host.gather gather_S100000_S1024x1_S1024_n_0_n_n_0_1_1 L (starts I) (ix1 r)) _ = _
  rw [fits_eq hI]
  show L _ = _
  refine congrArg L (funext fun a => ?_)
  obtain rfl : a = 0 := Subsingleton.elim (α := Fin 1) _ _
  refine Fin.ext ?_
  have e : gather_S100000_S1024x1_S1024_n_0_n_n_0_1_1.start (ix1 r) (starts I) 0 = (I (ix1 r)).toNat := by
    refine Eq.trans ?_ (clamped _ (hI (ix1 r)))
    rw [← starts_eq hI r 0]
    show min (starts I _).toInt.toNat _ = _
    congr 4
    funext b
    match b with
    | ⟨0, _⟩ => rfl
    | ⟨1, _⟩ => rfl
  exact e

theorem takenW_eq (hI : ∀ j, (I j).toNat < 100000) (r : Fin 1024) (z : Fin 1) : takenW I W (ix2 r z) = W (ix2 ⟨(I (ix1 r)).toNat, hI _⟩ 0) := by
  show Scalar.select (fits I _) (Host.gather gather_S100000x1_S1024x1_S1024x1_1_0_n_n_0_1_11 W (starts I) (ix2 r z)) _ = _
  rw [fits_eq hI]
  show W _ = _
  have e : gather_S100000x1_S1024x1_S1024x1_1_0_n_n_0_1_11.start (ix2 r z) (starts I) 0 = (I (ix1 r)).toNat := by
    refine Eq.trans ?_ (clamped _ (hI (ix1 r)))
    rw [← starts_eq hI r 0]
    show min (starts I _).toInt.toNat _ = _
    congr 4
    funext b
    match b with
    | ⟨0, _⟩ => rfl
    | ⟨1, _⟩ => rfl
  refine congrArg W (funext fun a => Fin.ext ?_)
  match a with
  | ⟨0, _⟩ => exact e
  | ⟨1, _⟩ => exact Nat.lt_one_iff.1 ((gather_S100000x1_S1024x1_S1024x1_1_0_n_n_0_1_11.operandIdx (ix2 r z) (starts I) (1 : Fin 2)).isLt)

theorem spots_eq (hI : ∀ j, (I j).toNat < 100000) (k : Fin 1024) :
    (spots I (ix2 k 0)).toInt = (k.val : Int) ∧ (spots I (ix2 k 1)).toInt = ((I (ix1 k)).toNat : Int) := by
  have h0 : spots I (ix2 k 0) = rowNo (ix1 k) := by
    pointwise [spots]
  have h1 : spots I (ix2 k 1) = starts I (ix2 k 0) := by
    pointwise [spots]
  have := hI (ix1 k)
  rw [h0, h1, starts_eq hI, rowNo_eq]
  refine ⟨?_, BitVec.toInt_eq_toNat_of_lt (by omega)⟩
  show (BitVec.ofNat 32 k.val).toInt = _
  rw [BitVec.toInt_eq_toNat_of_lt (by rw [BitVec.toNat_ofNat]; omega), BitVec.toNat_ofNat]
  congr 1; omega

/-- Row `k`'s zero lands at row `k`, column `I k`. -/
theorem lands (hI : ∀ j, (I j).toNat < 100000) (k r : Fin 1024) (j : Fin 100000) :
    scatter_S1024x100000_S1024x2_S1024_n_01_01_1.resultIdx? (ix1 k) (spots I) = some (ix2 r j) ↔ k = r ∧ (I (ix1 k)).toNat = j.val := by
  have hs : ∀ q : Fin 2, scatter_S1024x100000_S1024x2_S1024_n_01_01_1.start (ix1 k) (spots I) q = (spots I (ix2 k q)).toInt := fun q => by
    fin_cases q
    · show (spots I _).toInt = _
      congr 2
      funext b
      match b with
      | ⟨0, _⟩ => rfl
      | ⟨1, _⟩ => rfl
    · show (spots I _).toInt = _
      congr 2
      funext b
      match b with
      | ⟨0, _⟩ => rfl
      | ⟨1, _⟩ => rfl
  have hw : ∀ q : Fin 2, scatter_S1024x100000_S1024x2_S1024_n_01_01_1.window (ix1 k) q = 0 := fun q => by
    fin_cases q <;> rfl
  have h0 := hs 0; have h1 := hs 1
  rw [(spots_eq hI k).1] at h0
  rw [(spots_eq hI k).2] at h1
  rw [Routing.resultIdx?_eq_some]
  constructor
  · intro h
    have a0 := h (0 : Fin 2); have a1 := h (1 : Fin 2)
    rw [h0, hw] at a0
    rw [h1, hw] at a1
    have b0 : (k.val : Int) + 0 = (r.val : Int) := a0
    have b1 : ((I (ix1 k)).toNat : Int) + 0 = (j.val : Int) := a1
    exact ⟨Fin.ext (by omega), by omega⟩
  · rintro ⟨rfl, hj⟩ a
    match a with
    | ⟨0, _⟩ => exact (congrArg₂ (fun p (q : ℕ) => p + (q : Int)) h0 (hw 0)).trans (Int.add_zero _)
    | ⟨1, _⟩ => exact (congrArg₂ (fun p (q : ℕ) => p + (q : Int)) h1 (hw 1)).trans ((Int.add_zero _).trans (congrArg Int.ofNat hj))

/-- A column's number as a word is the row's index when the index is that column. -/
theorem word_eq_iff (v : BitVec 32) (j : Fin 100000) : BitVec.ofNat 32 j.val = v ↔ v.toNat = j.val := by
  constructor
  · rintro rfl; rw [BitVec.toNat_ofNat]; omega
  · intro h; rw [← h]; exact BitVec.eq_of_toNat_eq (by rw [BitVec.toNat_ofNat]; omega)

theorem expos_eq (hI : ∀ j, (I j).toNat < 100000) (r : Fin 1024) (j : Fin 100000) :
    expos X I (ix2 r j) = Loss.expo (fun j => X (ix2 r j)) (I (ix1 r)) j := by
  unfold expos Loss.expo
  by_cases h : BitVec.ofNat 32 j.val = I (ix1 r)
  · rw [if_pos h]
    exact Routing.scatter_set_hit _ _ _ _ _ 0 (fun k _ => Ideal.ofBits_zero_f32) (ix1 r) ((lands hI r r j).2 ⟨rfl, (word_eq_iff _ _).1 h⟩)
  · rw [if_neg h]
    refine Routing.scatter_set_miss _ _ _ _ _ fun k hk => ?_
    obtain ⟨k', rfl⟩ : ∃ k' : Fin 1024, k = ix1 k' := ⟨k 0, eq_ix1 k⟩
    obtain ⟨rfl, q⟩ := (lands hI k' r j).1 hk
    exact h ((word_eq_iff _ _).2 q)

theorem alike_eq (hI : ∀ j, (I j).toNat < 100000) (r : Fin 1024) (j : Fin 100000) :
    alike I L (ix2 r j) = IntOp.cmpi .eq (L (ix1 ⟨(I (ix1 r)).toNat, hI _⟩)) (L (ix1 j)) := by
  rw [← takenL_eq L hI]
  pointwise [alike]

/-- A product with the comparison's 0 or 1 keeps the factor where the words agree. -/
theorem mul_alike (e : EReal) (a b : BitVec 32) :
    e * (FloatOps.uitofp (F := Ideal) .f32 (IntOp.cmpi .eq a b) : EReal) = if b = a then e else 0 := by
  by_cases h : b = a
  · subst h
    have : (FloatOps.uitofp (F := Ideal) .f32 (IntOp.cmpi .eq b b) : EReal) = 1 := by simp [IntOp.cmpi, FloatOps.uitofp]
    rw [this, if_pos rfl, mul_one]
  · have : (FloatOps.uitofp (F := Ideal) .f32 (IntOp.cmpi .eq a b) : EReal) = 0 := by
      have q : ¬ a = b := fun q => h q.symm
      simp [IntOp.cmpi, FloatOps.uitofp, q]
    rw [this, if_neg h, mul_zero]

theorem losses_eq (hI : ∀ j, (I j).toNat < 100000) (r : Fin 1024) :
    losses X I L (ix1 r) = Loss.loss (fun j => X (ix2 r j)) (I (ix1 r)) (fun j => L (ix1 j)) (L (ix1 ⟨(I (ix1 r)).toNat, hI _⟩)) := by
  pointwise [losses]
  simp only [expos_eq X hI, alike_eq L hI]
  unfold Loss.loss Loss.same Loss.mass
  simp only [mul_alike]
  rw [show Loss.oneW = 1 from Ideal.ofBits_one_f32]

/-- The reference's result, for indexes in range: the mean over all pairs of rows, from each row's loss and each row's weight. -/
theorem value_eq (hI : ∀ j, (I j).toNat < 100000) :
    mean (losses X I L) (takenW I W) = fun _ => Ideal.div (∑ n : Fin 1024, ∑ k : Fin 1024,
      (Loss.loss (fun j => X (ix2 k j)) (I (ix1 k)) (fun j => L (ix1 j)) (L (ix1 ⟨(I (ix1 k)).toNat, hI _⟩)) * W (ix2 ⟨(I (ix1 n)).toNat, hI _⟩ 0)
        - Loss.cW * W (ix2 ⟨(I (ix1 n)).toNat, hI _⟩ 0))) Loss.areaW := by
  funext j
  rw [mean_eq]
  simp only [losses_eq X L hI, takenW_eq W hI]

end Cert.Proof.Ref

end

end
-- ==== Proof.Algebraic.lean ====
/-
  The program's result and the reference's are one number: both read over the extended reals, for proper inputs.
-/
module

public import proofs.«01_k».proof.Proof.IdealMain
public import proofs.«01_k».proof.Proof.KernelValue
public import proofs.«01_k».proof.Proof.ReferenceValue

@[expose] public section

noncomputable section

namespace Cert.Proof.OfIdeal

open Cert.KernelIdeal Cert.KernelIdeal.Gen
open Idealize.ShloMosaic Idealize.ShloMosaic.TcCoe
open Cert.Proof

variable (m : (ℓ : Loc nD τ sig) → Buf (Elt Ideal) ℓ) (d : Dev nD)

theorem tIx_eq (n : ℕ) (h : n < 100000) : tIx n = ix1 ⟨n, h⟩ := by
  funext a
  obtain rfl : a = 0 := Subsingleton.elim (α := Fin 1) _ _
  exact Fin.ext (Nat.mod_eq_of_lt h)

/-- The row of labels, at a column. -/
theorem rowL_eq (j : Fin 100000) : (rowL m d : S1x100000.Idx → BitVec 32) (ix2 0 j) = (m (lLoc d) : S100000.Idx → BitVec 32) (ix1 j) := by
  show (m (lLoc d) : S100000.Idx → BitVec 32) (Shape.reshapeEquiv shapeCasts_S100000_S1x100000 (ix2 0 j)) = _
  refine congrArg _ (Shape.reshapeEquiv_eq_of_rowMajor _ ?_)
  refine (Shape.rowMajor_val_one (ix1 j)).trans (Eq.trans ?_ (Shape.rowMajor_val_two (ix2 0 j)).symm)
  show j.val = 0 * 100000 + j.val
  omega

/-- The column of indexes, at a row. -/
theorem colI_eq (n : Fin 1024) : (colI m d : S1024x1.Idx → BitVec 32) (ix2 n 0) = (m (iLoc d) : S1024.Idx → BitVec 32) (ix1 n) := by
  unfold colI
  generalize (m (iLoc d) : S1024.Idx → BitVec 32) = y
  pointwise

section InRange
variable (hI : ∀ j : S1024.Idx, ((m (iLoc d) : S1024.Idx → BitVec 32) j).toNat < 100000)

/-- The column of gathered labels, at a row. -/
theorem colY_eq (n : Fin 1024) : (colY m d : S1024x1.Idx → BitVec 32) (ix2 n 0)
    = (m (lLoc d) : S100000.Idx → BitVec 32) (ix1 ⟨((m (iLoc d) : S1024.Idx → BitVec 32) (ix1 n)).toNat, hI _⟩) := by
  have h : (colY m d : S1024x1.Idx → BitVec 32) (ix2 n 0) = (yF m d : S1024.Idx → BitVec 32) (ix1 n) := by
    unfold colY
    generalize (yF m d : S1024.Idx → BitVec 32) = y
    pointwise
  rw [h, ← tIx_eq]
  rfl

/-- The column of gathered weights, at a row. -/
theorem colW_eq (n : Fin 1024) : (colW m d : S1024x1.Idx → EReal) (ix2 n 0)
    = (m (pLoc d) : S100000x1.Idx → EReal) (ix2 ⟨((m (iLoc d) : S1024.Idx → BitVec 32) (ix1 n)).toNat, hI _⟩ 0) := by
  have h : (colW m d : S1024x1.Idx → EReal) (ix2 n 0) = (bF m (wv m) d : S1024.Idx → EReal) (ix1 n) := by
    unfold colW
    generalize (bF m (wv m) d : S1024.Idx → EReal) = y
    pointwise
  have h2 : (wv m d : S100000.Idx → EReal) (ix1 ⟨((m (iLoc d) : S1024.Idx → BitVec 32) (ix1 n)).toNat, hI _⟩)
      = (m (pLoc d) : S100000x1.Idx → EReal) (ix2 ⟨((m (iLoc d) : S1024.Idx → BitVec 32) (ix1 n)).toNat, hI _⟩ 0) := by
    unfold wv
    generalize (m (pLoc d) : S100000x1.Idx → EReal) = y
    pointwise
  rw [h, ← h2, ← tIx_eq]
  rfl

/-- Row `k`'s loss, from the inputs. -/
abbrev lossOf (k : Fin 1024) : EReal :=
  Loss.loss (fun j => (m (xLoc d) : S1024x100000.Idx → EReal) (ix2 k j)) ((m (iLoc d) : S1024.Idx → BitVec 32) (ix1 k))
    (fun j => (m (lLoc d) : S100000.Idx → BitVec 32) (ix1 j))
    ((m (lLoc d) : S100000.Idx → BitVec 32) (ix1 ⟨((m (iLoc d) : S1024.Idx → BitVec 32) (ix1 k)).toNat, hI _⟩))
/-- Row `n`'s weight, from the inputs. -/
abbrev weightOf (n : Fin 1024) : EReal :=
  (m (pLoc d) : S100000x1.Idx → EReal) (ix2 ⟨((m (iLoc d) : S1024.Idx → BitVec 32) (ix1 n)).toNat, hI _⟩ 0)

/-- The program's result, from the inputs. -/
theorem resW_eq : resW m d
    = ((∑ k, lossOf m d hI k) * Loss.shareW * ((∑ n, weightOf m d hI n) * Loss.shareW) - Loss.cW * ((∑ n, weightOf m d hI n) * Loss.shareW) : EReal) := by
  have hA : ∀ k, rowLoss d (V m d main_arg0) (stage1_0 0) (stage1_1 0) (stage1_2 0) (V m d main_v2) (V m d main_v3) (V m d main_v4) k = lossOf m d hI k := fun k => by
    rw [V_arg0, V_v2, V_v3, V_v4]
    show Loss.loss _ ((colI m d : S1024x1.Idx → BitVec 32) (ix2 k 0)) (fun j => (rowL m d : S1x100000.Idx → BitVec 32) (ix2 0 j))
      ((colY m d : S1024x1.Idx → BitVec 32) (ix2 k 0)) = _
    rw [colI_eq, colY_eq m d hI, funext (rowL_eq m d)]
  have hW : ∀ n, rowWeight d (stage1_3 0) (V m d main_v5) n = weightOf m d hI n := fun n => by
    rw [V_v5]
    exact colW_eq m d hI n
  unfold resW outW
  rw [outVal_eq, Finset.sum_congr rfl fun k _ => hA k, Finset.sum_congr rfl fun n _ => hW n]

include hI in
/-- For scores above minus infinity and finite weights the program's result is the reference's, on the same inputs. -/
theorem same_value (hx : ∀ j : S1024x100000.Idx, (⊥ : EReal) < (m (xLoc d) : S1024x100000.Idx → EReal) j)
    (hw : ∀ j : S100000x1.Idx, ∃ r : ℝ, (m (pLoc d) : S100000x1.Idx → EReal) j = (r : EReal)) :
    (fun _ => resW m d : S_.Idx → EReal)
      = Ref.mean (Ref.losses (m (xLoc d)) (m (iLoc d)) (m (lLoc d))) (Ref.takenW (m (iLoc d)) (m (pLoc d))) := by
  refine Eq.trans (funext fun _ => ?_) (Ref.value_eq (m (xLoc d)) (m (lLoc d)) (m (pLoc d)) hI).symm
  rw [resW_eq m d hI]
  exact Loss.mean_factors_ereal (lossOf m d hI) (weightOf m d hI) (fun k => Loss.loss_real _ _ _ _ fun j => hx _) fun n => hw _

end InRange

end Cert.Proof.OfIdeal

end

end
-- ==== Proof.lean ====
/-
  The certificate's claims, assembled: the two programs' runs (Proof/BitsMain.lean, Proof/IdealMain.lean), the
  reference's run, the preconditions read at an index (Proof/Inputs.lean), the two results as one number
  (Proof/Algebraic.lean).
-/
module

public import proofs.«01_k».proof.Defs
public import proofs.«01_k».proof.Proof.BitsMain
public import proofs.«01_k».proof.Proof.Inputs
public import proofs.«01_k».proof.Proof.Algebraic
public import proofs.«01_k».proof.Proof.Gen.ReferenceIdeal.Run
public import Idealize.ShloMosaic.Lib.Claim

@[expose] public section

noncomputable section

namespace Cert.Proof

open Idealize.ShloMosaic Idealize.SL.Sem

/-- The printed program's frame. -/
theorem frame_bits : Cert.quiescent_Kernel (hKernel := Cert.Kernel.Gen.facts) (hPre_in_range := Cert.Pre_in_range.Gen.facts) := fun m ρ hp =>
  (θ_run Cert.Kernel.defs _ _).mono (fun _ h => ⟨fun c => (h.1 c).2, h.2⟩)
    (OfBits.run_main (F := Bits) m ρ fun d j => Inputs.index_of_in_range _ _ _ _ (hp d) j)

/-- The frame of the program read over the extended reals. -/
theorem frame_ideal : Cert.quiescent_KernelIdeal (hKernelIdeal := Cert.KernelIdeal.Gen.facts) (hPre_in_range := Cert.Pre_in_range.Gen.facts) :=
  fun m ρ hp => (θ_run Cert.KernelIdeal.defs _ _).mono (fun _ h => ⟨fun c => (h.1 c).2, h.2⟩)
    (OfIdeal.run_main (F := Ideal) m ρ fun d j => Inputs.index_of_in_range _ _ _ _ (hp d) j)

/-- The same frame under `proper`. -/
theorem frame_proper : Cert.quiescent_KernelIdeal_pre_proper (hKernelIdeal := Cert.KernelIdeal.Gen.facts) (hPre_proper := Cert.Pre_proper.Gen.facts) :=
  fun m ρ hp => (θ_run Cert.KernelIdeal.defs _ _).mono (fun _ h => ⟨fun c => (h.1 c).2, h.2⟩)
    (OfIdeal.run_main (F := Ideal) m ρ fun d j => (Inputs.of_proper _ _ _ _ (hp d)).1 j)

/-- The reference's frame: it declares no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_reference_proper : Cert.quiescent_ReferenceIdeal_pre_proper (hReferenceIdeal := Cert.ReferenceIdeal.Gen.facts) (hPre_proper := Cert.Pre_proper.Gen.facts) :=
  fun m ρ _ => frame_reference m ρ trivial

/-- The program's result is the reference's, over the extended reals. -/
theorem same_result : Cert.algebraic_KernelIdeal_ReferenceIdeal_pre_proper (hKernelIdeal := Cert.KernelIdeal.Gen.facts)
    (hReferenceIdeal := Cert.ReferenceIdeal.Gen.facts) (hPre_proper := Cert.Pre_proper.Gen.facts) := by
  intro m ρ m' ρ' hp hin
  refine ⟨fun c => OfIdeal.Rv (F := Ideal) m c, ?_, ?_⟩
  · exact (θ_run Cert.KernelIdeal.defs _ _).mono (fun _ h => h.1)
      (OfIdeal.run_main (F := Ideal) m ρ fun d j => (Inputs.of_proper _ _ _ _ (hp d)).1 j)
  · refine (θ_run Cert.ReferenceIdeal.defs _ _).mono (fun r h c => ⟨(h c).1.trans ?_, (h c).2⟩) (Cert.ReferenceIdeal.Value.run (F := Ideal) m' ρ')
    obtain ⟨hi, hx, hw⟩ := Inputs.of_proper _ _ _ _ (hp c)
    obtain ⟨e0, e1, e2, e3⟩ := hin c
    refine (Ref.result_eq m' c).trans (Eq.trans ?_ (OfIdeal.same_value m c hi hx hw).symm)
    rw [e0, e1, e2, e3]

/-- The certificate's claim. -/
theorem claim : Cert.Claim :=
  ⟨Cert.Kernel.Gen.facts, Cert.KernelIdeal.Gen.facts, Cert.ReferenceIdeal.Gen.facts, Cert.Pre_in_range.Gen.facts, Cert.Pre_proper.Gen.facts,
    frame_bits, frame_ideal, frame_proper, frame_reference, frame_reference_proper, trivial, same_result⟩

end Cert.Proof

end
